-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S_ : Shape := ⟨0, ![]⟩
abbrev S12 : Shape := ⟨1, ![12]⟩
abbrev S1 : Shape := ⟨1, ![1]⟩
abbrev S512x1024 : Shape := ⟨2, ![512, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_7 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_6 : BitVec 32 := 16#32
  let v15 : BitVec 32 := Scalar.muli v9 c16_i32_6
  let v16 : BitVec 32 := Scalar.addi c0_i32_7 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let v21 : BitVec 32 := Scalar.extui v12
  let c0_i32_10 : BitVec 32 := 0#32
  let v22 : BitVec 1 := Scalar.cmpi .ne v21 c0_i32_10
  v22

def k0_dev2 (d0 : Dev nD) : Nat :=
  let c0_i32_281 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_280 : BitVec 32 := 16#32
  let v488 : BitVec 32 := Scalar.muli v2 c16_i32_280
  let v489 : BitVec 32 := Scalar.addi c0_i32_281 v488
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_282 : BitVec 32 := 4#32
  let v490 : BitVec 32 := Scalar.muli v11 c4_i32_282
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v492 : BitVec 32 := Scalar.muli v8 c1_i32_283
  let v493 : BitVec 32 := Scalar.addi v491 v492
  v493.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let v23 : BitVec 32 := Scalar.extui v13
  let c0_i32_11 : BitVec 32 := 0#32
  let v24 : BitVec 1 := Scalar.cmpi .ne v23 c0_i32_11
  v24

def k0_dev3 (d0 : Dev nD) : Nat :=
  let c0_i32_281 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_280 : BitVec 32 := 16#32
  let v488 : BitVec 32 := Scalar.muli v2 c16_i32_280
  let v489 : BitVec 32 := Scalar.addi c0_i32_281 v488
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_282 : BitVec 32 := 4#32
  let v490 : BitVec 32 := Scalar.muli v10 c4_i32_282
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v492 : BitVec 32 := Scalar.muli v8 c1_i32_283
  let v493 : BitVec 32 := Scalar.addi v491 v492
  v493.toNat
def k0_amt1 (d0 : Dev nD) : BitVec 32 :=
  let c1_i32_12 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let v25 : BitVec 32 := Scalar.extui v12
  let v26 : BitVec 32 := Scalar.addi c1_i32_12 v25
  let c3_i32 : BitVec 32 := 3#32
  let v13 : BitVec 1 := Scalar.cmpi .slt v5 c3_i32
  let v27 : BitVec 32 := Scalar.extui v13
  let v28 : BitVec 32 := Scalar.addi v26 v27
  v28

def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32 : BitVec 32 := 4096#32
  let v29 : BitVec 32 := Scalar.muli v5 c4096_i32
  let c0_i32_13 : BitVec 32 := 0#32
  ![v29.toNat, 0]
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_14 : BitVec 32 := 0#32
  let v31 : BitVec 1 := Scalar.cmpi .sge v5 c0_i32_14
  let v32 : BitVec 1 := Scalar.andi v13 v31
  let v33 : BitVec 32 := Scalar.extui v32
  let c0_i32_15 : BitVec 32 := 0#32
  let v34 : BitVec 1 := Scalar.cmpi .ne v33 c0_i32_15
  v34

def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_281 : BitVec 32 := 4096#32
  let v491 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v492 : BitVec 32 := Scalar.muli v2 c2048_i32_282
  let v493 : BitVec 32 := Scalar.addi v491 v492
  let c0_i32_283 : BitVec 32 := 0#32
  let v494 : BitVec 32 := Scalar.addi v493 c0_i32_283
  let c0_i32_290 : BitVec 32 := 0#32
  ![v494.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c0_i32_280 : BitVec 32 := 0#32
  let v490 : BitVec 32 := Scalar.addi v489 c0_i32_280
  let c0_i32_291 : BitVec 32 := 0#32
  ![v490.toNat, 0]
def k0_dev4 (d0 : Dev nD) : Nat :=
  let c0_i32_287 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_286 : BitVec 32 := 16#32
  let v495 : BitVec 32 := Scalar.muli v2 c16_i32_286
  let v496 : BitVec 32 := Scalar.addi c0_i32_287 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_288 : BitVec 32 := 4#32
  let v497 : BitVec 32 := Scalar.muli v10 c4_i32_288
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v499 : BitVec 32 := Scalar.muli v8 c1_i32_289
  let v500 : BitVec 32 := Scalar.addi v498 v499
  v500.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_16 : BitVec 32 := 3#32
  let v35 : BitVec 32 := Scalar.subi c3_i32_16 v5
  let c0_i32_17 : BitVec 32 := 0#32
  let v36 : BitVec 1 := Scalar.cmpi .sge v35 c0_i32_17
  let v37 : BitVec 1 := Scalar.andi v12 v36
  let v38 : BitVec 32 := Scalar.extui v37
  let c0_i32_18 : BitVec 32 := 0#32
  let v39 : BitVec 1 := Scalar.cmpi .ne v38 c0_i32_18
  v39

def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_281 : BitVec 32 := 4096#32
  let v491 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v492 : BitVec 32 := Scalar.muli v2 c2048_i32_282
  let v493 : BitVec 32 := Scalar.addi v491 v492
  let c0_i32_283 : BitVec 32 := 0#32
  let v494 : BitVec 32 := Scalar.addi v493 c0_i32_283
  let c0_i32_290 : BitVec 32 := 0#32
  ![v494.toNat, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c0_i32_280 : BitVec 32 := 0#32
  let v490 : BitVec 32 := Scalar.addi v489 c0_i32_280
  let c0_i32_291 : BitVec 32 := 0#32
  ![v490.toNat, 0]
def k0_dev5 (d0 : Dev nD) : Nat :=
  let c0_i32_287 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_286 : BitVec 32 := 16#32
  let v495 : BitVec 32 := Scalar.muli v2 c16_i32_286
  let v496 : BitVec 32 := Scalar.addi c0_i32_287 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_288 : BitVec 32 := 4#32
  let v497 : BitVec 32 := Scalar.muli v11 c4_i32_288
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v499 : BitVec 32 := Scalar.muli v8 c1_i32_289
  let v500 : BitVec 32 := Scalar.addi v498 v499
  v500.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_19 : BitVec 32 := 1#32
  let v40 : BitVec 32 := Scalar.subi v5 c1_i32_19
  let c0_i32_20 : BitVec 32 := 0#32
  let v41 : BitVec 1 := Scalar.cmpi .sge v40 c0_i32_20
  let v42 : BitVec 1 := Scalar.andi v12 v41
  let v43 : BitVec 32 := Scalar.extui v42
  let c0_i32_21 : BitVec 32 := 0#32
  let v44 : BitVec 1 := Scalar.cmpi .ne v43 c0_i32_21
  v44

def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_281 : BitVec 32 := 4096#32
  let v491 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v492 : BitVec 32 := Scalar.muli v2 c2048_i32_282
  let v493 : BitVec 32 := Scalar.addi v491 v492
  let c0_i32_283 : BitVec 32 := 0#32
  let v494 : BitVec 32 := Scalar.addi v493 c0_i32_283
  let c0_i32_290 : BitVec 32 := 0#32
  ![v494.toNat, 0]
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c0_i32_280 : BitVec 32 := 0#32
  let v490 : BitVec 32 := Scalar.addi v489 c0_i32_280
  let c0_i32_291 : BitVec 32 := 0#32
  ![v490.toNat, 0]
def k0_off8 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_292 : BitVec 32 := 1#32
  let v505 : BitVec 32 := Scalar.subi v5 c1_i32_292
  let c0_i32_293 : BitVec 32 := 0#32
  let v506 : BitVec 32 := Scalar.subi v505 c0_i32_293
  let c4096_i32_297 : BitVec 32 := 4096#32
  let v511 : BitVec 32 := Scalar.muli v506 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v512 : BitVec 32 := Scalar.muli v2 c2048_i32_298
  let v513 : BitVec 32 := Scalar.addi v511 v512
  let c0_i32_299 : BitVec 32 := 0#32
  let v514 : BitVec 32 := Scalar.addi v513 c0_i32_299
  let c0_i32_306 : BitVec 32 := 0#32
  ![v514.toNat, 0]
def k0_dev6 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v515 : BitVec 32 := Scalar.muli v9 c16_i32_302
  let v516 : BitVec 32 := Scalar.addi c0_i32_303 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v517 : BitVec 32 := Scalar.muli v5 c4_i32_304
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v519 : BitVec 32 := Scalar.muli v8 c1_i32_305
  let v520 : BitVec 32 := Scalar.addi v518 v519
  v520.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_22 : BitVec 32 := 2#32
  let v45 : BitVec 32 := Scalar.subi c2_i32_22 v5
  let c0_i32_23 : BitVec 32 := 0#32
  let v46 : BitVec 1 := Scalar.cmpi .sge v45 c0_i32_23
  let v47 : BitVec 1 := Scalar.andi v13 v46
  let v48 : BitVec 32 := Scalar.extui v47
  let c0_i32_24 : BitVec 32 := 0#32
  let v49 : BitVec 1 := Scalar.cmpi .ne v48 c0_i32_24
  v49

def k0_off9 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_281 : BitVec 32 := 4096#32
  let v491 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v492 : BitVec 32 := Scalar.muli v2 c2048_i32_282
  let v493 : BitVec 32 := Scalar.addi v491 v492
  let c0_i32_283 : BitVec 32 := 0#32
  let v494 : BitVec 32 := Scalar.addi v493 c0_i32_283
  let c0_i32_290 : BitVec 32 := 0#32
  ![v494.toNat, 0]
def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c0_i32_280 : BitVec 32 := 0#32
  let v490 : BitVec 32 := Scalar.addi v489 c0_i32_280
  let c0_i32_291 : BitVec 32 := 0#32
  ![v490.toNat, 0]
def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_292 : BitVec 32 := 1#32
  let v505 : BitVec 32 := Scalar.addi v5 c1_i32_292
  let c0_i32_293 : BitVec 32 := 0#32
  let v506 : BitVec 32 := Scalar.addi v505 c0_i32_293
  let c4096_i32_297 : BitVec 32 := 4096#32
  let v511 : BitVec 32 := Scalar.muli v506 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v512 : BitVec 32 := Scalar.muli v2 c2048_i32_298
  let v513 : BitVec 32 := Scalar.addi v511 v512
  let c0_i32_299 : BitVec 32 := 0#32
  let v514 : BitVec 32 := Scalar.addi v513 c0_i32_299
  let c0_i32_306 : BitVec 32 := 0#32
  ![v514.toNat, 0]
def k0_dev7 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v515 : BitVec 32 := Scalar.muli v9 c16_i32_302
  let v516 : BitVec 32 := Scalar.addi c0_i32_303 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v517 : BitVec 32 := Scalar.muli v5 c4_i32_304
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v519 : BitVec 32 := Scalar.muli v8 c1_i32_305
  let v520 : BitVec 32 := Scalar.addi v518 v519
  v520.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_25 : BitVec 32 := 0#32
  let v50 : BitVec 1 := Scalar.cmpi .sge v5 c0_i32_25
  let v51 : BitVec 1 := Scalar.andi v13 v50
  let v52 : BitVec 32 := Scalar.extui v51
  let c0_i32_26 : BitVec 32 := 0#32
  let v53 : BitVec 1 := Scalar.cmpi .ne v52 c0_i32_26
  v53

def k0_off12 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c512_i32_282 : BitVec 32 := 512#32
  let v494 : BitVec 32 := Scalar.addi v493 c512_i32_282
  let c0_i32_289 : BitVec 32 := 0#32
  ![v494.toNat, 0]
def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c512_i32 : BitVec 32 := 512#32
  let v490 : BitVec 32 := Scalar.addi v489 c512_i32
  let c0_i32_290 : BitVec 32 := 0#32
  ![v490.toNat, 0]
def k0_dev8 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v495 : BitVec 32 := Scalar.muli v2 c16_i32_285
  let v496 : BitVec 32 := Scalar.addi c0_i32_286 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v497 : BitVec 32 := Scalar.muli v10 c4_i32_287
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v499 : BitVec 32 := Scalar.muli v8 c1_i32_288
  let v500 : BitVec 32 := Scalar.addi v498 v499
  v500.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_27 : BitVec 32 := 3#32
  let v54 : BitVec 32 := Scalar.subi c3_i32_27 v5
  let c0_i32_28 : BitVec 32 := 0#32
  let v55 : BitVec 1 := Scalar.cmpi .sge v54 c0_i32_28
  let v56 : BitVec 1 := Scalar.andi v12 v55
  let v57 : BitVec 32 := Scalar.extui v56
  let c0_i32_29 : BitVec 32 := 0#32
  let v58 : BitVec 1 := Scalar.cmpi .ne v57 c0_i32_29
  v58

def k0_off14 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c512_i32_282 : BitVec 32 := 512#32
  let v494 : BitVec 32 := Scalar.addi v493 c512_i32_282
  let c0_i32_289 : BitVec 32 := 0#32
  ![v494.toNat, 0]
def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c512_i32 : BitVec 32 := 512#32
  let v490 : BitVec 32 := Scalar.addi v489 c512_i32
  let c0_i32_290 : BitVec 32 := 0#32
  ![v490.toNat, 0]
def k0_dev9 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v495 : BitVec 32 := Scalar.muli v2 c16_i32_285
  let v496 : BitVec 32 := Scalar.addi c0_i32_286 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v497 : BitVec 32 := Scalar.muli v11 c4_i32_287
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v499 : BitVec 32 := Scalar.muli v8 c1_i32_288
  let v500 : BitVec 32 := Scalar.addi v498 v499
  v500.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_30 : BitVec 32 := 1#32
  let v59 : BitVec 32 := Scalar.subi v5 c1_i32_30
  let c0_i32_31 : BitVec 32 := 0#32
  let v60 : BitVec 1 := Scalar.cmpi .sge v59 c0_i32_31
  let v61 : BitVec 1 := Scalar.andi v12 v60
  let v62 : BitVec 32 := Scalar.extui v61
  let c0_i32_32 : BitVec 32 := 0#32
  let v63 : BitVec 1 := Scalar.cmpi .ne v62 c0_i32_32
  v63

def k0_off16 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c512_i32_282 : BitVec 32 := 512#32
  let v494 : BitVec 32 := Scalar.addi v493 c512_i32_282
  let c0_i32_289 : BitVec 32 := 0#32
  ![v494.toNat, 0]
def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c512_i32 : BitVec 32 := 512#32
  let v490 : BitVec 32 := Scalar.addi v489 c512_i32
  let c0_i32_290 : BitVec 32 := 0#32
  ![v490.toNat, 0]
def k0_off18 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v505 : BitVec 32 := Scalar.subi v5 c1_i32_291
  let c0_i32_292 : BitVec 32 := 0#32
  let v506 : BitVec 32 := Scalar.subi v505 c0_i32_292
  let c4096_i32_296 : BitVec 32 := 4096#32
  let v511 : BitVec 32 := Scalar.muli v506 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v512 : BitVec 32 := Scalar.muli v2 c2048_i32_297
  let v513 : BitVec 32 := Scalar.addi v511 v512
  let c512_i32_298 : BitVec 32 := 512#32
  let v514 : BitVec 32 := Scalar.addi v513 c512_i32_298
  let c0_i32_305 : BitVec 32 := 0#32
  ![v514.toNat, 0]
def k0_dev10 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v515 : BitVec 32 := Scalar.muli v9 c16_i32_301
  let v516 : BitVec 32 := Scalar.addi c0_i32_302 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v517 : BitVec 32 := Scalar.muli v5 c4_i32_303
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v519 : BitVec 32 := Scalar.muli v8 c1_i32_304
  let v520 : BitVec 32 := Scalar.addi v518 v519
  v520.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_33 : BitVec 32 := 2#32
  let v64 : BitVec 32 := Scalar.subi c2_i32_33 v5
  let c0_i32_34 : BitVec 32 := 0#32
  let v65 : BitVec 1 := Scalar.cmpi .sge v64 c0_i32_34
  let v66 : BitVec 1 := Scalar.andi v13 v65
  let v67 : BitVec 32 := Scalar.extui v66
  let c0_i32_35 : BitVec 32 := 0#32
  let v68 : BitVec 1 := Scalar.cmpi .ne v67 c0_i32_35
  v68

def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c512_i32_282 : BitVec 32 := 512#32
  let v494 : BitVec 32 := Scalar.addi v493 c512_i32_282
  let c0_i32_289 : BitVec 32 := 0#32
  ![v494.toNat, 0]
def k0_off20 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c512_i32 : BitVec 32 := 512#32
  let v490 : BitVec 32 := Scalar.addi v489 c512_i32
  let c0_i32_290 : BitVec 32 := 0#32
  ![v490.toNat, 0]
def k0_off21 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v505 : BitVec 32 := Scalar.addi v5 c1_i32_291
  let c0_i32_292 : BitVec 32 := 0#32
  let v506 : BitVec 32 := Scalar.addi v505 c0_i32_292
  let c4096_i32_296 : BitVec 32 := 4096#32
  let v511 : BitVec 32 := Scalar.muli v506 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v512 : BitVec 32 := Scalar.muli v2 c2048_i32_297
  let v513 : BitVec 32 := Scalar.addi v511 v512
  let c512_i32_298 : BitVec 32 := 512#32
  let v514 : BitVec 32 := Scalar.addi v513 c512_i32_298
  let c0_i32_305 : BitVec 32 := 0#32
  ![v514.toNat, 0]
def k0_dev11 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v515 : BitVec 32 := Scalar.muli v9 c16_i32_301
  let v516 : BitVec 32 := Scalar.addi c0_i32_302 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v517 : BitVec 32 := Scalar.muli v5 c4_i32_303
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v519 : BitVec 32 := Scalar.muli v8 c1_i32_304
  let v520 : BitVec 32 := Scalar.addi v518 v519
  v520.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_36 : BitVec 32 := 0#32
  let v69 : BitVec 1 := Scalar.cmpi .sge v5 c0_i32_36
  let v70 : BitVec 1 := Scalar.andi v13 v69
  let v71 : BitVec 32 := Scalar.extui v70
  let c0_i32_37 : BitVec 32 := 0#32
  let v72 : BitVec 1 := Scalar.cmpi .ne v71 c0_i32_37
  v72

def k0_off22 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1024_i32_282 : BitVec 32 := 1024#32
  let v494 : BitVec 32 := Scalar.addi v493 c1024_i32_282
  let c0_i32_289 : BitVec 32 := 0#32
  ![v494.toNat, 0]
def k0_off23 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1024_i32 : BitVec 32 := 1024#32
  let v490 : BitVec 32 := Scalar.addi v489 c1024_i32
  let c0_i32_290 : BitVec 32 := 0#32
  ![v490.toNat, 0]
def k0_dev12 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v495 : BitVec 32 := Scalar.muli v2 c16_i32_285
  let v496 : BitVec 32 := Scalar.addi c0_i32_286 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v497 : BitVec 32 := Scalar.muli v10 c4_i32_287
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v499 : BitVec 32 := Scalar.muli v8 c1_i32_288
  let v500 : BitVec 32 := Scalar.addi v498 v499
  v500.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_38 : BitVec 32 := 3#32
  let v73 : BitVec 32 := Scalar.subi c3_i32_38 v5
  let c0_i32_39 : BitVec 32 := 0#32
  let v74 : BitVec 1 := Scalar.cmpi .sge v73 c0_i32_39
  let v75 : BitVec 1 := Scalar.andi v12 v74
  let v76 : BitVec 32 := Scalar.extui v75
  let c0_i32_40 : BitVec 32 := 0#32
  let v77 : BitVec 1 := Scalar.cmpi .ne v76 c0_i32_40
  v77

def k0_off24 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1024_i32_282 : BitVec 32 := 1024#32
  let v494 : BitVec 32 := Scalar.addi v493 c1024_i32_282
  let c0_i32_289 : BitVec 32 := 0#32
  ![v494.toNat, 0]
def k0_off25 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1024_i32 : BitVec 32 := 1024#32
  let v490 : BitVec 32 := Scalar.addi v489 c1024_i32
  let c0_i32_290 : BitVec 32 := 0#32
  ![v490.toNat, 0]
def k0_dev13 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v495 : BitVec 32 := Scalar.muli v2 c16_i32_285
  let v496 : BitVec 32 := Scalar.addi c0_i32_286 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v497 : BitVec 32 := Scalar.muli v11 c4_i32_287
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v499 : BitVec 32 := Scalar.muli v8 c1_i32_288
  let v500 : BitVec 32 := Scalar.addi v498 v499
  v500.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_41 : BitVec 32 := 1#32
  let v78 : BitVec 32 := Scalar.subi v5 c1_i32_41
  let c0_i32_42 : BitVec 32 := 0#32
  let v79 : BitVec 1 := Scalar.cmpi .sge v78 c0_i32_42
  let v80 : BitVec 1 := Scalar.andi v12 v79
  let v81 : BitVec 32 := Scalar.extui v80
  let c0_i32_43 : BitVec 32 := 0#32
  let v82 : BitVec 1 := Scalar.cmpi .ne v81 c0_i32_43
  v82

def k0_off26 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1024_i32_282 : BitVec 32 := 1024#32
  let v494 : BitVec 32 := Scalar.addi v493 c1024_i32_282
  let c0_i32_289 : BitVec 32 := 0#32
  ![v494.toNat, 0]
def k0_off27 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1024_i32 : BitVec 32 := 1024#32
  let v490 : BitVec 32 := Scalar.addi v489 c1024_i32
  let c0_i32_290 : BitVec 32 := 0#32
  ![v490.toNat, 0]
def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v505 : BitVec 32 := Scalar.subi v5 c1_i32_291
  let c0_i32_292 : BitVec 32 := 0#32
  let v506 : BitVec 32 := Scalar.subi v505 c0_i32_292
  let c4096_i32_296 : BitVec 32 := 4096#32
  let v511 : BitVec 32 := Scalar.muli v506 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v512 : BitVec 32 := Scalar.muli v2 c2048_i32_297
  let v513 : BitVec 32 := Scalar.addi v511 v512
  let c1024_i32_298 : BitVec 32 := 1024#32
  let v514 : BitVec 32 := Scalar.addi v513 c1024_i32_298
  let c0_i32_305 : BitVec 32 := 0#32
  ![v514.toNat, 0]
def k0_dev14 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v515 : BitVec 32 := Scalar.muli v9 c16_i32_301
  let v516 : BitVec 32 := Scalar.addi c0_i32_302 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v517 : BitVec 32 := Scalar.muli v5 c4_i32_303
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v519 : BitVec 32 := Scalar.muli v8 c1_i32_304
  let v520 : BitVec 32 := Scalar.addi v518 v519
  v520.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_44 : BitVec 32 := 2#32
  let v83 : BitVec 32 := Scalar.subi c2_i32_44 v5
  let c0_i32_45 : BitVec 32 := 0#32
  let v84 : BitVec 1 := Scalar.cmpi .sge v83 c0_i32_45
  let v85 : BitVec 1 := Scalar.andi v13 v84
  let v86 : BitVec 32 := Scalar.extui v85
  let c0_i32_46 : BitVec 32 := 0#32
  let v87 : BitVec 1 := Scalar.cmpi .ne v86 c0_i32_46
  v87

def k0_off29 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1024_i32_282 : BitVec 32 := 1024#32
  let v494 : BitVec 32 := Scalar.addi v493 c1024_i32_282
  let c0_i32_289 : BitVec 32 := 0#32
  ![v494.toNat, 0]
def k0_off30 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1024_i32 : BitVec 32 := 1024#32
  let v490 : BitVec 32 := Scalar.addi v489 c1024_i32
  let c0_i32_290 : BitVec 32 := 0#32
  ![v490.toNat, 0]
def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v505 : BitVec 32 := Scalar.addi v5 c1_i32_291
  let c0_i32_292 : BitVec 32 := 0#32
  let v506 : BitVec 32 := Scalar.addi v505 c0_i32_292
  let c4096_i32_296 : BitVec 32 := 4096#32
  let v511 : BitVec 32 := Scalar.muli v506 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v512 : BitVec 32 := Scalar.muli v2 c2048_i32_297
  let v513 : BitVec 32 := Scalar.addi v511 v512
  let c1024_i32_298 : BitVec 32 := 1024#32
  let v514 : BitVec 32 := Scalar.addi v513 c1024_i32_298
  let c0_i32_305 : BitVec 32 := 0#32
  ![v514.toNat, 0]
def k0_dev15 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v515 : BitVec 32 := Scalar.muli v9 c16_i32_301
  let v516 : BitVec 32 := Scalar.addi c0_i32_302 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v517 : BitVec 32 := Scalar.muli v5 c4_i32_303
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v519 : BitVec 32 := Scalar.muli v8 c1_i32_304
  let v520 : BitVec 32 := Scalar.addi v518 v519
  v520.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_47 : BitVec 32 := 0#32
  let v88 : BitVec 1 := Scalar.cmpi .sge v5 c0_i32_47
  let v89 : BitVec 1 := Scalar.andi v13 v88
  let v90 : BitVec 32 := Scalar.extui v89
  let c0_i32_48 : BitVec 32 := 0#32
  let v91 : BitVec 1 := Scalar.cmpi .ne v90 c0_i32_48
  v91

def k0_off32 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1536_i32_282 : BitVec 32 := 1536#32
  let v494 : BitVec 32 := Scalar.addi v493 c1536_i32_282
  let c0_i32_289 : BitVec 32 := 0#32
  ![v494.toNat, 0]
def k0_off33 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1536_i32 : BitVec 32 := 1536#32
  let v490 : BitVec 32 := Scalar.addi v489 c1536_i32
  let c0_i32_290 : BitVec 32 := 0#32
  ![v490.toNat, 0]
def k0_dev16 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v495 : BitVec 32 := Scalar.muli v2 c16_i32_285
  let v496 : BitVec 32 := Scalar.addi c0_i32_286 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v497 : BitVec 32 := Scalar.muli v10 c4_i32_287
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v499 : BitVec 32 := Scalar.muli v8 c1_i32_288
  let v500 : BitVec 32 := Scalar.addi v498 v499
  v500.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_49 : BitVec 32 := 3#32
  let v92 : BitVec 32 := Scalar.subi c3_i32_49 v5
  let c0_i32_50 : BitVec 32 := 0#32
  let v93 : BitVec 1 := Scalar.cmpi .sge v92 c0_i32_50
  let v94 : BitVec 1 := Scalar.andi v12 v93
  let v95 : BitVec 32 := Scalar.extui v94
  let c0_i32_51 : BitVec 32 := 0#32
  let v96 : BitVec 1 := Scalar.cmpi .ne v95 c0_i32_51
  v96

def k0_off34 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1536_i32_282 : BitVec 32 := 1536#32
  let v494 : BitVec 32 := Scalar.addi v493 c1536_i32_282
  let c0_i32_289 : BitVec 32 := 0#32
  ![v494.toNat, 0]
def k0_off35 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1536_i32 : BitVec 32 := 1536#32
  let v490 : BitVec 32 := Scalar.addi v489 c1536_i32
  let c0_i32_290 : BitVec 32 := 0#32
  ![v490.toNat, 0]
def k0_dev17 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v495 : BitVec 32 := Scalar.muli v2 c16_i32_285
  let v496 : BitVec 32 := Scalar.addi c0_i32_286 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v497 : BitVec 32 := Scalar.muli v11 c4_i32_287
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v499 : BitVec 32 := Scalar.muli v8 c1_i32_288
  let v500 : BitVec 32 := Scalar.addi v498 v499
  v500.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_52 : BitVec 32 := 1#32
  let v97 : BitVec 32 := Scalar.subi v5 c1_i32_52
  let c0_i32_53 : BitVec 32 := 0#32
  let v98 : BitVec 1 := Scalar.cmpi .sge v97 c0_i32_53
  let v99 : BitVec 1 := Scalar.andi v12 v98
  let v100 : BitVec 32 := Scalar.extui v99
  let c0_i32_54 : BitVec 32 := 0#32
  let v101 : BitVec 1 := Scalar.cmpi .ne v100 c0_i32_54
  v101

def k0_off36 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1536_i32_282 : BitVec 32 := 1536#32
  let v494 : BitVec 32 := Scalar.addi v493 c1536_i32_282
  let c0_i32_289 : BitVec 32 := 0#32
  ![v494.toNat, 0]
def k0_off37 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1536_i32 : BitVec 32 := 1536#32
  let v490 : BitVec 32 := Scalar.addi v489 c1536_i32
  let c0_i32_290 : BitVec 32 := 0#32
  ![v490.toNat, 0]
def k0_off38 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v505 : BitVec 32 := Scalar.subi v5 c1_i32_291
  let c0_i32_292 : BitVec 32 := 0#32
  let v506 : BitVec 32 := Scalar.subi v505 c0_i32_292
  let c4096_i32_296 : BitVec 32 := 4096#32
  let v511 : BitVec 32 := Scalar.muli v506 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v512 : BitVec 32 := Scalar.muli v2 c2048_i32_297
  let v513 : BitVec 32 := Scalar.addi v511 v512
  let c1536_i32_298 : BitVec 32 := 1536#32
  let v514 : BitVec 32 := Scalar.addi v513 c1536_i32_298
  let c0_i32_305 : BitVec 32 := 0#32
  ![v514.toNat, 0]
def k0_dev18 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v515 : BitVec 32 := Scalar.muli v9 c16_i32_301
  let v516 : BitVec 32 := Scalar.addi c0_i32_302 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v517 : BitVec 32 := Scalar.muli v5 c4_i32_303
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v519 : BitVec 32 := Scalar.muli v8 c1_i32_304
  let v520 : BitVec 32 := Scalar.addi v518 v519
  v520.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_55 : BitVec 32 := 2#32
  let v102 : BitVec 32 := Scalar.subi c2_i32_55 v5
  let c0_i32_56 : BitVec 32 := 0#32
  let v103 : BitVec 1 := Scalar.cmpi .sge v102 c0_i32_56
  let v104 : BitVec 1 := Scalar.andi v13 v103
  let v105 : BitVec 32 := Scalar.extui v104
  let c0_i32_57 : BitVec 32 := 0#32
  let v106 : BitVec 1 := Scalar.cmpi .ne v105 c0_i32_57
  v106

def k0_off39 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1536_i32_282 : BitVec 32 := 1536#32
  let v494 : BitVec 32 := Scalar.addi v493 c1536_i32_282
  let c0_i32_289 : BitVec 32 := 0#32
  ![v494.toNat, 0]
def k0_off40 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1536_i32 : BitVec 32 := 1536#32
  let v490 : BitVec 32 := Scalar.addi v489 c1536_i32
  let c0_i32_290 : BitVec 32 := 0#32
  ![v490.toNat, 0]
def k0_off41 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v505 : BitVec 32 := Scalar.addi v5 c1_i32_291
  let c0_i32_292 : BitVec 32 := 0#32
  let v506 : BitVec 32 := Scalar.addi v505 c0_i32_292
  let c4096_i32_296 : BitVec 32 := 4096#32
  let v511 : BitVec 32 := Scalar.muli v506 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v512 : BitVec 32 := Scalar.muli v2 c2048_i32_297
  let v513 : BitVec 32 := Scalar.addi v511 v512
  let c1536_i32_298 : BitVec 32 := 1536#32
  let v514 : BitVec 32 := Scalar.addi v513 c1536_i32_298
  let c0_i32_305 : BitVec 32 := 0#32
  ![v514.toNat, 0]
def k0_dev19 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v515 : BitVec 32 := Scalar.muli v9 c16_i32_301
  let v516 : BitVec 32 := Scalar.addi c0_i32_302 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v517 : BitVec 32 := Scalar.muli v5 c4_i32_303
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v519 : BitVec 32 := Scalar.muli v8 c1_i32_304
  let v520 : BitVec 32 := Scalar.addi v518 v519
  v520.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_58 : BitVec 32 := 1#32
  let v107 : BitVec 1 := Scalar.cmpi .sge v5 c1_i32_58
  let v108 : BitVec 1 := Scalar.andi v13 v107
  let v109 : BitVec 32 := Scalar.extui v108
  let c0_i32_59 : BitVec 32 := 0#32
  let v110 : BitVec 1 := Scalar.cmpi .ne v109 c0_i32_59
  v110

def k0_off42 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_291 : BitVec 32 := 0#32
  ![v496.toNat, 0]
def k0_dev20 (d0 : Dev nD) : Nat :=
  let c0_i32_288 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_287 : BitVec 32 := 16#32
  let v497 : BitVec 32 := Scalar.muli v2 c16_i32_287
  let v498 : BitVec 32 := Scalar.addi c0_i32_288 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_289 : BitVec 32 := 4#32
  let v499 : BitVec 32 := Scalar.muli v10 c4_i32_289
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v501 : BitVec 32 := Scalar.muli v8 c1_i32_290
  let v502 : BitVec 32 := Scalar.addi v500 v501
  v502.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_60 : BitVec 32 := 3#32
  let v111 : BitVec 32 := Scalar.subi c3_i32_60 v5
  let c1_i32_61 : BitVec 32 := 1#32
  let v112 : BitVec 1 := Scalar.cmpi .sge v111 c1_i32_61
  let v113 : BitVec 1 := Scalar.andi v12 v112
  let v114 : BitVec 32 := Scalar.extui v113
  let c0_i32_62 : BitVec 32 := 0#32
  let v115 : BitVec 1 := Scalar.cmpi .ne v114 c0_i32_62
  v115

def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_291 : BitVec 32 := 0#32
  ![v496.toNat, 0]
def k0_dev21 (d0 : Dev nD) : Nat :=
  let c0_i32_288 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_287 : BitVec 32 := 16#32
  let v497 : BitVec 32 := Scalar.muli v2 c16_i32_287
  let v498 : BitVec 32 := Scalar.addi c0_i32_288 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_289 : BitVec 32 := 4#32
  let v499 : BitVec 32 := Scalar.muli v11 c4_i32_289
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v501 : BitVec 32 := Scalar.muli v8 c1_i32_290
  let v502 : BitVec 32 := Scalar.addi v500 v501
  v502.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_63 : BitVec 32 := 1#32
  let v116 : BitVec 32 := Scalar.subi v5 c1_i32_63
  let c1_i32_64 : BitVec 32 := 1#32
  let v117 : BitVec 1 := Scalar.cmpi .sge v116 c1_i32_64
  let v118 : BitVec 1 := Scalar.andi v12 v117
  let v119 : BitVec 32 := Scalar.extui v118
  let c0_i32_65 : BitVec 32 := 0#32
  let v120 : BitVec 1 := Scalar.cmpi .ne v119 c0_i32_65
  v120

def k0_off44 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_291 : BitVec 32 := 0#32
  ![v496.toNat, 0]
def k0_off45 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_293 : BitVec 32 := 1#32
  let v507 : BitVec 32 := Scalar.subi v5 c1_i32_293
  let c1_i32_294 : BitVec 32 := 1#32
  let v508 : BitVec 32 := Scalar.subi v507 c1_i32_294
  let c4096_i32_298 : BitVec 32 := 4096#32
  let v513 : BitVec 32 := Scalar.muli v508 c4096_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_299 : BitVec 32 := 2048#32
  let v514 : BitVec 32 := Scalar.muli v2 c2048_i32_299
  let v515 : BitVec 32 := Scalar.addi v513 v514
  let c0_i32_300 : BitVec 32 := 0#32
  let v516 : BitVec 32 := Scalar.addi v515 c0_i32_300
  let c0_i32_307 : BitVec 32 := 0#32
  ![v516.toNat, 0]
def k0_dev22 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v517 : BitVec 32 := Scalar.muli v9 c16_i32_303
  let v518 : BitVec 32 := Scalar.addi c0_i32_304 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v519 : BitVec 32 := Scalar.muli v5 c4_i32_305
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v521 : BitVec 32 := Scalar.muli v8 c1_i32_306
  let v522 : BitVec 32 := Scalar.addi v520 v521
  v522.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_66 : BitVec 32 := 2#32
  let v121 : BitVec 32 := Scalar.subi c2_i32_66 v5
  let c1_i32_67 : BitVec 32 := 1#32
  let v122 : BitVec 1 := Scalar.cmpi .sge v121 c1_i32_67
  let v123 : BitVec 1 := Scalar.andi v13 v122
  let v124 : BitVec 32 := Scalar.extui v123
  let c0_i32_68 : BitVec 32 := 0#32
  let v125 : BitVec 1 := Scalar.cmpi .ne v124 c0_i32_68
  v125

def k0_off46 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_291 : BitVec 32 := 0#32
  ![v496.toNat, 0]
def k0_off47 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_293 : BitVec 32 := 1#32
  let v507 : BitVec 32 := Scalar.addi v5 c1_i32_293
  let c1_i32_294 : BitVec 32 := 1#32
  let v508 : BitVec 32 := Scalar.addi v507 c1_i32_294
  let c4096_i32_298 : BitVec 32 := 4096#32
  let v513 : BitVec 32 := Scalar.muli v508 c4096_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_299 : BitVec 32 := 2048#32
  let v514 : BitVec 32 := Scalar.muli v2 c2048_i32_299
  let v515 : BitVec 32 := Scalar.addi v513 v514
  let c0_i32_300 : BitVec 32 := 0#32
  let v516 : BitVec 32 := Scalar.addi v515 c0_i32_300
  let c0_i32_307 : BitVec 32 := 0#32
  ![v516.toNat, 0]
def k0_dev23 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v517 : BitVec 32 := Scalar.muli v9 c16_i32_303
  let v518 : BitVec 32 := Scalar.addi c0_i32_304 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v519 : BitVec 32 := Scalar.muli v5 c4_i32_305
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v521 : BitVec 32 := Scalar.muli v8 c1_i32_306
  let v522 : BitVec 32 := Scalar.addi v520 v521
  v522.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_69 : BitVec 32 := 1#32
  let v126 : BitVec 1 := Scalar.cmpi .sge v5 c1_i32_69
  let v127 : BitVec 1 := Scalar.andi v13 v126
  let v128 : BitVec 32 := Scalar.extui v127
  let c0_i32_70 : BitVec 32 := 0#32
  let v129 : BitVec 1 := Scalar.cmpi .ne v128 c0_i32_70
  v129

def k0_off48 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_dev24 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v499 : BitVec 32 := Scalar.muli v10 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_71 : BitVec 32 := 3#32
  let v130 : BitVec 32 := Scalar.subi c3_i32_71 v5
  let c1_i32_72 : BitVec 32 := 1#32
  let v131 : BitVec 1 := Scalar.cmpi .sge v130 c1_i32_72
  let v132 : BitVec 1 := Scalar.andi v12 v131
  let v133 : BitVec 32 := Scalar.extui v132
  let c0_i32_73 : BitVec 32 := 0#32
  let v134 : BitVec 1 := Scalar.cmpi .ne v133 c0_i32_73
  v134

def k0_off49 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_dev25 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v499 : BitVec 32 := Scalar.muli v11 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_74 : BitVec 32 := 1#32
  let v135 : BitVec 32 := Scalar.subi v5 c1_i32_74
  let c1_i32_75 : BitVec 32 := 1#32
  let v136 : BitVec 1 := Scalar.cmpi .sge v135 c1_i32_75
  let v137 : BitVec 1 := Scalar.andi v12 v136
  let v138 : BitVec 32 := Scalar.extui v137
  let c0_i32_76 : BitVec 32 := 0#32
  let v139 : BitVec 1 := Scalar.cmpi .ne v138 c0_i32_76
  v139

def k0_off50 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.subi v5 c1_i32_291
  let c1_i32_292 : BitVec 32 := 1#32
  let v508 : BitVec 32 := Scalar.subi v507 c1_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c512_i32_298 : BitVec 32 := 512#32
  let v516 : BitVec 32 := Scalar.addi v515 c512_i32_298
  let c0_i32_305 : BitVec 32 := 0#32
  ![v516.toNat, 0]
def k0_dev26 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_77 : BitVec 32 := 2#32
  let v140 : BitVec 32 := Scalar.subi c2_i32_77 v5
  let c1_i32_78 : BitVec 32 := 1#32
  let v141 : BitVec 1 := Scalar.cmpi .sge v140 c1_i32_78
  let v142 : BitVec 1 := Scalar.andi v13 v141
  let v143 : BitVec 32 := Scalar.extui v142
  let c0_i32_79 : BitVec 32 := 0#32
  let v144 : BitVec 1 := Scalar.cmpi .ne v143 c0_i32_79
  v144

def k0_off52 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_off53 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.addi v5 c1_i32_291
  let c1_i32_292 : BitVec 32 := 1#32
  let v508 : BitVec 32 := Scalar.addi v507 c1_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c512_i32_298 : BitVec 32 := 512#32
  let v516 : BitVec 32 := Scalar.addi v515 c512_i32_298
  let c0_i32_305 : BitVec 32 := 0#32
  ![v516.toNat, 0]
def k0_dev27 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_80 : BitVec 32 := 1#32
  let v145 : BitVec 1 := Scalar.cmpi .sge v5 c1_i32_80
  let v146 : BitVec 1 := Scalar.andi v13 v145
  let v147 : BitVec 32 := Scalar.extui v146
  let c0_i32_81 : BitVec 32 := 0#32
  let v148 : BitVec 1 := Scalar.cmpi .ne v147 c0_i32_81
  v148

def k0_off54 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_dev28 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v499 : BitVec 32 := Scalar.muli v10 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_82 : BitVec 32 := 3#32
  let v149 : BitVec 32 := Scalar.subi c3_i32_82 v5
  let c1_i32_83 : BitVec 32 := 1#32
  let v150 : BitVec 1 := Scalar.cmpi .sge v149 c1_i32_83
  let v151 : BitVec 1 := Scalar.andi v12 v150
  let v152 : BitVec 32 := Scalar.extui v151
  let c0_i32_84 : BitVec 32 := 0#32
  let v153 : BitVec 1 := Scalar.cmpi .ne v152 c0_i32_84
  v153

def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_dev29 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v499 : BitVec 32 := Scalar.muli v11 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_85 : BitVec 32 := 1#32
  let v154 : BitVec 32 := Scalar.subi v5 c1_i32_85
  let c1_i32_86 : BitVec 32 := 1#32
  let v155 : BitVec 1 := Scalar.cmpi .sge v154 c1_i32_86
  let v156 : BitVec 1 := Scalar.andi v12 v155
  let v157 : BitVec 32 := Scalar.extui v156
  let c0_i32_87 : BitVec 32 := 0#32
  let v158 : BitVec 1 := Scalar.cmpi .ne v157 c0_i32_87
  v158

def k0_off56 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_off57 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.subi v5 c1_i32_291
  let c1_i32_292 : BitVec 32 := 1#32
  let v508 : BitVec 32 := Scalar.subi v507 c1_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1024_i32_298 : BitVec 32 := 1024#32
  let v516 : BitVec 32 := Scalar.addi v515 c1024_i32_298
  let c0_i32_305 : BitVec 32 := 0#32
  ![v516.toNat, 0]
def k0_dev30 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_88 : BitVec 32 := 2#32
  let v159 : BitVec 32 := Scalar.subi c2_i32_88 v5
  let c1_i32_89 : BitVec 32 := 1#32
  let v160 : BitVec 1 := Scalar.cmpi .sge v159 c1_i32_89
  let v161 : BitVec 1 := Scalar.andi v13 v160
  let v162 : BitVec 32 := Scalar.extui v161
  let c0_i32_90 : BitVec 32 := 0#32
  let v163 : BitVec 1 := Scalar.cmpi .ne v162 c0_i32_90
  v163

def k0_off58 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.addi v5 c1_i32_291
  let c1_i32_292 : BitVec 32 := 1#32
  let v508 : BitVec 32 := Scalar.addi v507 c1_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1024_i32_298 : BitVec 32 := 1024#32
  let v516 : BitVec 32 := Scalar.addi v515 c1024_i32_298
  let c0_i32_305 : BitVec 32 := 0#32
  ![v516.toNat, 0]
def k0_dev31 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_91 : BitVec 32 := 1#32
  let v164 : BitVec 1 := Scalar.cmpi .sge v5 c1_i32_91
  let v165 : BitVec 1 := Scalar.andi v13 v164
  let v166 : BitVec 32 := Scalar.extui v165
  let c0_i32_92 : BitVec 32 := 0#32
  let v167 : BitVec 1 := Scalar.cmpi .ne v166 c0_i32_92
  v167

def k0_off60 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_dev32 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v499 : BitVec 32 := Scalar.muli v10 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_93 : BitVec 32 := 3#32
  let v168 : BitVec 32 := Scalar.subi c3_i32_93 v5
  let c1_i32_94 : BitVec 32 := 1#32
  let v169 : BitVec 1 := Scalar.cmpi .sge v168 c1_i32_94
  let v170 : BitVec 1 := Scalar.andi v12 v169
  let v171 : BitVec 32 := Scalar.extui v170
  let c0_i32_95 : BitVec 32 := 0#32
  let v172 : BitVec 1 := Scalar.cmpi .ne v171 c0_i32_95
  v172

def k0_off61 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_dev33 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v499 : BitVec 32 := Scalar.muli v11 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_96 : BitVec 32 := 1#32
  let v173 : BitVec 32 := Scalar.subi v5 c1_i32_96
  let c1_i32_97 : BitVec 32 := 1#32
  let v174 : BitVec 1 := Scalar.cmpi .sge v173 c1_i32_97
  let v175 : BitVec 1 := Scalar.andi v12 v174
  let v176 : BitVec 32 := Scalar.extui v175
  let c0_i32_98 : BitVec 32 := 0#32
  let v177 : BitVec 1 := Scalar.cmpi .ne v176 c0_i32_98
  v177

def k0_off62 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.subi v5 c1_i32_291
  let c1_i32_292 : BitVec 32 := 1#32
  let v508 : BitVec 32 := Scalar.subi v507 c1_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1536_i32_298 : BitVec 32 := 1536#32
  let v516 : BitVec 32 := Scalar.addi v515 c1536_i32_298
  let c0_i32_305 : BitVec 32 := 0#32
  ![v516.toNat, 0]
def k0_dev34 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_99 : BitVec 32 := 2#32
  let v178 : BitVec 32 := Scalar.subi c2_i32_99 v5
  let c1_i32_100 : BitVec 32 := 1#32
  let v179 : BitVec 1 := Scalar.cmpi .sge v178 c1_i32_100
  let v180 : BitVec 1 := Scalar.andi v13 v179
  let v181 : BitVec 32 := Scalar.extui v180
  let c0_i32_101 : BitVec 32 := 0#32
  let v182 : BitVec 1 := Scalar.cmpi .ne v181 c0_i32_101
  v182

def k0_off64 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_off65 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.addi v5 c1_i32_291
  let c1_i32_292 : BitVec 32 := 1#32
  let v508 : BitVec 32 := Scalar.addi v507 c1_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1536_i32_298 : BitVec 32 := 1536#32
  let v516 : BitVec 32 := Scalar.addi v515 c1536_i32_298
  let c0_i32_305 : BitVec 32 := 0#32
  ![v516.toNat, 0]
def k0_dev35 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_102 : BitVec 32 := 2#32
  let v183 : BitVec 1 := Scalar.cmpi .sge v5 c2_i32_102
  let v184 : BitVec 1 := Scalar.andi v13 v183
  let v185 : BitVec 32 := Scalar.extui v184
  let c0_i32_103 : BitVec 32 := 0#32
  let v186 : BitVec 1 := Scalar.cmpi .ne v185 c0_i32_103
  v186

def k0_off66 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_290 : BitVec 32 := 0#32
  ![v496.toNat, 0]
def k0_dev36 (d0 : Dev nD) : Nat :=
  let c0_i32_287 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_286 : BitVec 32 := 16#32
  let v497 : BitVec 32 := Scalar.muli v2 c16_i32_286
  let v498 : BitVec 32 := Scalar.addi c0_i32_287 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_288 : BitVec 32 := 4#32
  let v499 : BitVec 32 := Scalar.muli v10 c4_i32_288
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v501 : BitVec 32 := Scalar.muli v8 c1_i32_289
  let v502 : BitVec 32 := Scalar.addi v500 v501
  v502.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_104 : BitVec 32 := 3#32
  let v187 : BitVec 32 := Scalar.subi c3_i32_104 v5
  let c2_i32_105 : BitVec 32 := 2#32
  let v188 : BitVec 1 := Scalar.cmpi .sge v187 c2_i32_105
  let v189 : BitVec 1 := Scalar.andi v12 v188
  let v190 : BitVec 32 := Scalar.extui v189
  let c0_i32_106 : BitVec 32 := 0#32
  let v191 : BitVec 1 := Scalar.cmpi .ne v190 c0_i32_106
  v191

def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_290 : BitVec 32 := 0#32
  ![v496.toNat, 0]
def k0_dev37 (d0 : Dev nD) : Nat :=
  let c0_i32_287 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_286 : BitVec 32 := 16#32
  let v497 : BitVec 32 := Scalar.muli v2 c16_i32_286
  let v498 : BitVec 32 := Scalar.addi c0_i32_287 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_288 : BitVec 32 := 4#32
  let v499 : BitVec 32 := Scalar.muli v11 c4_i32_288
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v501 : BitVec 32 := Scalar.muli v8 c1_i32_289
  let v502 : BitVec 32 := Scalar.addi v500 v501
  v502.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_107 : BitVec 32 := 1#32
  let v192 : BitVec 32 := Scalar.subi v5 c1_i32_107
  let c2_i32_108 : BitVec 32 := 2#32
  let v193 : BitVec 1 := Scalar.cmpi .sge v192 c2_i32_108
  let v194 : BitVec 1 := Scalar.andi v12 v193
  let v195 : BitVec 32 := Scalar.extui v194
  let c0_i32_109 : BitVec 32 := 0#32
  let v196 : BitVec 1 := Scalar.cmpi .ne v195 c0_i32_109
  v196

def k0_off68 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_290 : BitVec 32 := 0#32
  ![v496.toNat, 0]
def k0_off69 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_292 : BitVec 32 := 1#32
  let v507 : BitVec 32 := Scalar.subi v5 c1_i32_292
  let c2_i32_293 : BitVec 32 := 2#32
  let v508 : BitVec 32 := Scalar.subi v507 c2_i32_293
  let c4096_i32_297 : BitVec 32 := 4096#32
  let v513 : BitVec 32 := Scalar.muli v508 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v514 : BitVec 32 := Scalar.muli v2 c2048_i32_298
  let v515 : BitVec 32 := Scalar.addi v513 v514
  let c0_i32_299 : BitVec 32 := 0#32
  let v516 : BitVec 32 := Scalar.addi v515 c0_i32_299
  let c0_i32_306 : BitVec 32 := 0#32
  ![v516.toNat, 0]
def k0_dev38 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v517 : BitVec 32 := Scalar.muli v9 c16_i32_302
  let v518 : BitVec 32 := Scalar.addi c0_i32_303 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v519 : BitVec 32 := Scalar.muli v5 c4_i32_304
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v521 : BitVec 32 := Scalar.muli v8 c1_i32_305
  let v522 : BitVec 32 := Scalar.addi v520 v521
  v522.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_110 : BitVec 32 := 2#32
  let v197 : BitVec 32 := Scalar.subi c2_i32_110 v5
  let c2_i32_111 : BitVec 32 := 2#32
  let v198 : BitVec 1 := Scalar.cmpi .sge v197 c2_i32_111
  let v199 : BitVec 1 := Scalar.andi v13 v198
  let v200 : BitVec 32 := Scalar.extui v199
  let c0_i32_112 : BitVec 32 := 0#32
  let v201 : BitVec 1 := Scalar.cmpi .ne v200 c0_i32_112
  v201

def k0_off70 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_282 : BitVec 32 := 4096#32
  let v493 : BitVec 32 := Scalar.muli v488 c4096_i32_282
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_283 : BitVec 32 := 2048#32
  let v494 : BitVec 32 := Scalar.muli v2 c2048_i32_283
  let v495 : BitVec 32 := Scalar.addi v493 v494
  let c0_i32_284 : BitVec 32 := 0#32
  let v496 : BitVec 32 := Scalar.addi v495 c0_i32_284
  let c0_i32_290 : BitVec 32 := 0#32
  ![v496.toNat, 0]
def k0_off71 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_292 : BitVec 32 := 1#32
  let v507 : BitVec 32 := Scalar.addi v5 c1_i32_292
  let c2_i32_293 : BitVec 32 := 2#32
  let v508 : BitVec 32 := Scalar.addi v507 c2_i32_293
  let c4096_i32_297 : BitVec 32 := 4096#32
  let v513 : BitVec 32 := Scalar.muli v508 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v514 : BitVec 32 := Scalar.muli v2 c2048_i32_298
  let v515 : BitVec 32 := Scalar.addi v513 v514
  let c0_i32_299 : BitVec 32 := 0#32
  let v516 : BitVec 32 := Scalar.addi v515 c0_i32_299
  let c0_i32_306 : BitVec 32 := 0#32
  ![v516.toNat, 0]
def k0_dev39 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v517 : BitVec 32 := Scalar.muli v9 c16_i32_302
  let v518 : BitVec 32 := Scalar.addi c0_i32_303 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v519 : BitVec 32 := Scalar.muli v5 c4_i32_304
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v521 : BitVec 32 := Scalar.muli v8 c1_i32_305
  let v522 : BitVec 32 := Scalar.addi v520 v521
  v522.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_113 : BitVec 32 := 2#32
  let v202 : BitVec 1 := Scalar.cmpi .sge v5 c2_i32_113
  let v203 : BitVec 1 := Scalar.andi v13 v202
  let v204 : BitVec 32 := Scalar.extui v203
  let c0_i32_114 : BitVec 32 := 0#32
  let v205 : BitVec 1 := Scalar.cmpi .ne v204 c0_i32_114
  v205

def k0_off72 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_dev40 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v499 : BitVec 32 := Scalar.muli v10 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_115 : BitVec 32 := 3#32
  let v206 : BitVec 32 := Scalar.subi c3_i32_115 v5
  let c2_i32_116 : BitVec 32 := 2#32
  let v207 : BitVec 1 := Scalar.cmpi .sge v206 c2_i32_116
  let v208 : BitVec 1 := Scalar.andi v12 v207
  let v209 : BitVec 32 := Scalar.extui v208
  let c0_i32_117 : BitVec 32 := 0#32
  let v210 : BitVec 1 := Scalar.cmpi .ne v209 c0_i32_117
  v210

def k0_off73 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_dev41 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v499 : BitVec 32 := Scalar.muli v11 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_118 : BitVec 32 := 1#32
  let v211 : BitVec 32 := Scalar.subi v5 c1_i32_118
  let c2_i32_119 : BitVec 32 := 2#32
  let v212 : BitVec 1 := Scalar.cmpi .sge v211 c2_i32_119
  let v213 : BitVec 1 := Scalar.andi v12 v212
  let v214 : BitVec 32 := Scalar.extui v213
  let c0_i32_120 : BitVec 32 := 0#32
  let v215 : BitVec 1 := Scalar.cmpi .ne v214 c0_i32_120
  v215

def k0_off74 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_off75 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.subi v5 c1_i32_291
  let c2_i32_292 : BitVec 32 := 2#32
  let v508 : BitVec 32 := Scalar.subi v507 c2_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c512_i32_298 : BitVec 32 := 512#32
  let v516 : BitVec 32 := Scalar.addi v515 c512_i32_298
  let c0_i32_305 : BitVec 32 := 0#32
  ![v516.toNat, 0]
def k0_dev42 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_121 : BitVec 32 := 2#32
  let v216 : BitVec 32 := Scalar.subi c2_i32_121 v5
  let c2_i32_122 : BitVec 32 := 2#32
  let v217 : BitVec 1 := Scalar.cmpi .sge v216 c2_i32_122
  let v218 : BitVec 1 := Scalar.andi v13 v217
  let v219 : BitVec 32 := Scalar.extui v218
  let c0_i32_123 : BitVec 32 := 0#32
  let v220 : BitVec 1 := Scalar.cmpi .ne v219 c0_i32_123
  v220

def k0_off76 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c512_i32_283 : BitVec 32 := 512#32
  let v496 : BitVec 32 := Scalar.addi v495 c512_i32_283
  let c0_i32_289 : BitVec 32 := 0#32
  ![v496.toNat, 0]
def k0_off77 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.addi v5 c1_i32_291
  let c2_i32_292 : BitVec 32 := 2#32
  let v508 : BitVec 32 := Scalar.addi v507 c2_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c512_i32_298 : BitVec 32 := 512#32
  let v516 : BitVec 32 := Scalar.addi v515 c512_i32_298
  let c0_i32_305 : BitVec 32 := 0#32
  ![v516.toNat, 0]
def k0_dev43 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_124 : BitVec 32 := 2#32
  let v221 : BitVec 1 := Scalar.cmpi .sge v5 c2_i32_124
  let v222 : BitVec 1 := Scalar.andi v13 v221
  let v223 : BitVec 32 := Scalar.extui v222
  let c0_i32_125 : BitVec 32 := 0#32
  let v224 : BitVec 1 := Scalar.cmpi .ne v223 c0_i32_125
  v224

def k0_off78 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_dev44 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v499 : BitVec 32 := Scalar.muli v10 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_126 : BitVec 32 := 3#32
  let v225 : BitVec 32 := Scalar.subi c3_i32_126 v5
  let c2_i32_127 : BitVec 32 := 2#32
  let v226 : BitVec 1 := Scalar.cmpi .sge v225 c2_i32_127
  let v227 : BitVec 1 := Scalar.andi v12 v226
  let v228 : BitVec 32 := Scalar.extui v227
  let c0_i32_128 : BitVec 32 := 0#32
  let v229 : BitVec 1 := Scalar.cmpi .ne v228 c0_i32_128
  v229

def k0_off79 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_dev45 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v499 : BitVec 32 := Scalar.muli v11 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_129 : BitVec 32 := 1#32
  let v230 : BitVec 32 := Scalar.subi v5 c1_i32_129
  let c2_i32_130 : BitVec 32 := 2#32
  let v231 : BitVec 1 := Scalar.cmpi .sge v230 c2_i32_130
  let v232 : BitVec 1 := Scalar.andi v12 v231
  let v233 : BitVec 32 := Scalar.extui v232
  let c0_i32_131 : BitVec 32 := 0#32
  let v234 : BitVec 1 := Scalar.cmpi .ne v233 c0_i32_131
  v234

def k0_off80 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_off81 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.subi v5 c1_i32_291
  let c2_i32_292 : BitVec 32 := 2#32
  let v508 : BitVec 32 := Scalar.subi v507 c2_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1024_i32_298 : BitVec 32 := 1024#32
  let v516 : BitVec 32 := Scalar.addi v515 c1024_i32_298
  let c0_i32_305 : BitVec 32 := 0#32
  ![v516.toNat, 0]
def k0_dev46 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_132 : BitVec 32 := 2#32
  let v235 : BitVec 32 := Scalar.subi c2_i32_132 v5
  let c2_i32_133 : BitVec 32 := 2#32
  let v236 : BitVec 1 := Scalar.cmpi .sge v235 c2_i32_133
  let v237 : BitVec 1 := Scalar.andi v13 v236
  let v238 : BitVec 32 := Scalar.extui v237
  let c0_i32_134 : BitVec 32 := 0#32
  let v239 : BitVec 1 := Scalar.cmpi .ne v238 c0_i32_134
  v239

def k0_off82 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1024_i32_283 : BitVec 32 := 1024#32
  let v496 : BitVec 32 := Scalar.addi v495 c1024_i32_283
  let c0_i32_289 : BitVec 32 := 0#32
  ![v496.toNat, 0]
def k0_off83 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.addi v5 c1_i32_291
  let c2_i32_292 : BitVec 32 := 2#32
  let v508 : BitVec 32 := Scalar.addi v507 c2_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1024_i32_298 : BitVec 32 := 1024#32
  let v516 : BitVec 32 := Scalar.addi v515 c1024_i32_298
  let c0_i32_305 : BitVec 32 := 0#32
  ![v516.toNat, 0]
def k0_dev47 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_135 : BitVec 32 := 2#32
  let v240 : BitVec 1 := Scalar.cmpi .sge v5 c2_i32_135
  let v241 : BitVec 1 := Scalar.andi v13 v240
  let v242 : BitVec 32 := Scalar.extui v241
  let c0_i32_136 : BitVec 32 := 0#32
  let v243 : BitVec 1 := Scalar.cmpi .ne v242 c0_i32_136
  v243

def k0_off84 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_dev48 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_287 : BitVec 32 := 4#32
  let v499 : BitVec 32 := Scalar.muli v10 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_137 : BitVec 32 := 3#32
  let v244 : BitVec 32 := Scalar.subi c3_i32_137 v5
  let c2_i32_138 : BitVec 32 := 2#32
  let v245 : BitVec 1 := Scalar.cmpi .sge v244 c2_i32_138
  let v246 : BitVec 1 := Scalar.andi v12 v245
  let v247 : BitVec 32 := Scalar.extui v246
  let c0_i32_139 : BitVec 32 := 0#32
  let v248 : BitVec 1 := Scalar.cmpi .ne v247 c0_i32_139
  v248

def k0_off85 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_dev49 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v497 : BitVec 32 := Scalar.muli v2 c16_i32_285
  let v498 : BitVec 32 := Scalar.addi c0_i32_286 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_287 : BitVec 32 := 4#32
  let v499 : BitVec 32 := Scalar.muli v11 c4_i32_287
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v501 : BitVec 32 := Scalar.muli v8 c1_i32_288
  let v502 : BitVec 32 := Scalar.addi v500 v501
  v502.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_140 : BitVec 32 := 1#32
  let v249 : BitVec 32 := Scalar.subi v5 c1_i32_140
  let c2_i32_141 : BitVec 32 := 2#32
  let v250 : BitVec 1 := Scalar.cmpi .sge v249 c2_i32_141
  let v251 : BitVec 1 := Scalar.andi v12 v250
  let v252 : BitVec 32 := Scalar.extui v251
  let c0_i32_142 : BitVec 32 := 0#32
  let v253 : BitVec 1 := Scalar.cmpi .ne v252 c0_i32_142
  v253

def k0_off86 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_off87 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.subi v5 c1_i32_291
  let c2_i32_292 : BitVec 32 := 2#32
  let v508 : BitVec 32 := Scalar.subi v507 c2_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1536_i32_298 : BitVec 32 := 1536#32
  let v516 : BitVec 32 := Scalar.addi v515 c1536_i32_298
  let c0_i32_305 : BitVec 32 := 0#32
  ![v516.toNat, 0]
def k0_dev50 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_143 : BitVec 32 := 2#32
  let v254 : BitVec 32 := Scalar.subi c2_i32_143 v5
  let c2_i32_144 : BitVec 32 := 2#32
  let v255 : BitVec 1 := Scalar.cmpi .sge v254 c2_i32_144
  let v256 : BitVec 1 := Scalar.andi v13 v255
  let v257 : BitVec 32 := Scalar.extui v256
  let c0_i32_145 : BitVec 32 := 0#32
  let v258 : BitVec 1 := Scalar.cmpi .ne v257 c0_i32_145
  v258

def k0_off88 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_281 : BitVec 32 := 4096#32
  let v493 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v494 : BitVec 32 := Scalar.muli v2 c2048_i32_282
  let v495 : BitVec 32 := Scalar.addi v493 v494
  let c1536_i32_283 : BitVec 32 := 1536#32
  let v496 : BitVec 32 := Scalar.addi v495 c1536_i32_283
  let c0_i32_289 : BitVec 32 := 0#32
  ![v496.toNat, 0]
def k0_off89 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v507 : BitVec 32 := Scalar.addi v5 c1_i32_291
  let c2_i32_292 : BitVec 32 := 2#32
  let v508 : BitVec 32 := Scalar.addi v507 c2_i32_292
  let c4096_i32_296 : BitVec 32 := 4096#32
  let v513 : BitVec 32 := Scalar.muli v508 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v514 : BitVec 32 := Scalar.muli v2 c2048_i32_297
  let v515 : BitVec 32 := Scalar.addi v513 v514
  let c1536_i32_298 : BitVec 32 := 1536#32
  let v516 : BitVec 32 := Scalar.addi v515 c1536_i32_298
  let c0_i32_305 : BitVec 32 := 0#32
  ![v516.toNat, 0]
def k0_dev51 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v517 : BitVec 32 := Scalar.muli v9 c16_i32_301
  let v518 : BitVec 32 := Scalar.addi c0_i32_302 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v519 : BitVec 32 := Scalar.muli v5 c4_i32_303
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v521 : BitVec 32 := Scalar.muli v8 c1_i32_304
  let v522 : BitVec 32 := Scalar.addi v520 v521
  v522.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_147 : BitVec 32 := 1#32
  let v260 : BitVec 32 := Scalar.subi v5 c1_i32_147
  let c0_i32_148 : BitVec 32 := 0#32
  let v261 : BitVec 1 := Scalar.cmpi .sge v260 c0_i32_148
  let v262 : BitVec 1 := Scalar.andi v12 v261
  let v263 : BitVec 32 := Scalar.extui v262
  let c0_i32_149 : BitVec 32 := 0#32
  let v264 : BitVec 1 := Scalar.cmpi .ne v263 c0_i32_149
  v264

def k0_off90 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c0_i32_280 : BitVec 32 := 0#32
  let v489 : BitVec 32 := Scalar.subi v488 c0_i32_280
  let c4096_i32_285 : BitVec 32 := 4096#32
  let v496 : BitVec 32 := Scalar.muli v489 c4096_i32_285
  let c1_i32_284 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_284 v2
  let c2048_i32_286 : BitVec 32 := 2048#32
  let v497 : BitVec 32 := Scalar.muli v495 c2048_i32_286
  let v498 : BitVec 32 := Scalar.addi v496 v497
  let c0_i32_287 : BitVec 32 := 0#32
  let v499 : BitVec 32 := Scalar.addi v498 c0_i32_287
  let c0_i32_294 : BitVec 32 := 0#32
  ![v499.toNat, 0]
def k0_off91 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_296 : BitVec 32 := 1#32
  let v510 : BitVec 32 := Scalar.subi v5 c1_i32_296
  let c0_i32_297 : BitVec 32 := 0#32
  let v511 : BitVec 32 := Scalar.subi v510 c0_i32_297
  let c4096_i32_298 : BitVec 32 := 4096#32
  let v512 : BitVec 32 := Scalar.muli v511 c4096_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_299 : BitVec 32 := 2048#32
  let v513 : BitVec 32 := Scalar.muli v2 c2048_i32_299
  let v514 : BitVec 32 := Scalar.addi v512 v513
  let c0_i32_300 : BitVec 32 := 0#32
  let v515 : BitVec 32 := Scalar.addi v514 c0_i32_300
  let c0_i32_307 : BitVec 32 := 0#32
  ![v515.toNat, 0]
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_150 : BitVec 32 := 2#32
  let v265 : BitVec 32 := Scalar.subi c2_i32_150 v5
  let c0_i32_151 : BitVec 32 := 0#32
  let v266 : BitVec 1 := Scalar.cmpi .sge v265 c0_i32_151
  let v267 : BitVec 1 := Scalar.andi v13 v266
  let v268 : BitVec 32 := Scalar.extui v267
  let c0_i32_152 : BitVec 32 := 0#32
  let v269 : BitVec 1 := Scalar.cmpi .ne v268 c0_i32_152
  v269

def k0_off92 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c0_i32_280 : BitVec 32 := 0#32
  let v489 : BitVec 32 := Scalar.addi v488 c0_i32_280
  let c4096_i32_285 : BitVec 32 := 4096#32
  let v496 : BitVec 32 := Scalar.muli v489 c4096_i32_285
  let c1_i32_284 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_284 v2
  let c2048_i32_286 : BitVec 32 := 2048#32
  let v497 : BitVec 32 := Scalar.muli v495 c2048_i32_286
  let v498 : BitVec 32 := Scalar.addi v496 v497
  let c0_i32_287 : BitVec 32 := 0#32
  let v499 : BitVec 32 := Scalar.addi v498 c0_i32_287
  let c0_i32_294 : BitVec 32 := 0#32
  ![v499.toNat, 0]
def k0_off93 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_296 : BitVec 32 := 1#32
  let v510 : BitVec 32 := Scalar.addi v5 c1_i32_296
  let c0_i32_297 : BitVec 32 := 0#32
  let v511 : BitVec 32 := Scalar.addi v510 c0_i32_297
  let c4096_i32_298 : BitVec 32 := 4096#32
  let v512 : BitVec 32 := Scalar.muli v511 c4096_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_299 : BitVec 32 := 2048#32
  let v513 : BitVec 32 := Scalar.muli v2 c2048_i32_299
  let v514 : BitVec 32 := Scalar.addi v512 v513
  let c0_i32_300 : BitVec 32 := 0#32
  let v515 : BitVec 32 := Scalar.addi v514 c0_i32_300
  let c0_i32_307 : BitVec 32 := 0#32
  ![v515.toNat, 0]
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_153 : BitVec 32 := 0#32
  let v270 : BitVec 1 := Scalar.cmpi .sge v5 c0_i32_153
  let v271 : BitVec 1 := Scalar.andi v13 v270
  let v272 : BitVec 32 := Scalar.extui v271
  let c0_i32_154 : BitVec 32 := 0#32
  let v273 : BitVec 1 := Scalar.cmpi .ne v272 c0_i32_154
  v273

def k0_off94 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c0_i32_280 : BitVec 32 := 0#32
  let v490 : BitVec 32 := Scalar.addi v489 c0_i32_280
  let c0_i32_287 : BitVec 32 := 0#32
  ![v490.toNat, 0]
def k0_off95 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_281 : BitVec 32 := 4096#32
  let v491 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v492 : BitVec 32 := Scalar.muli v2 c2048_i32_282
  let v493 : BitVec 32 := Scalar.addi v491 v492
  let c0_i32_283 : BitVec 32 := 0#32
  let v494 : BitVec 32 := Scalar.addi v493 c0_i32_283
  let c0_i32_288 : BitVec 32 := 0#32
  ![v494.toNat, 0]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_155 : BitVec 32 := 3#32
  let v274 : BitVec 32 := Scalar.subi c3_i32_155 v5
  let c0_i32_156 : BitVec 32 := 0#32
  let v275 : BitVec 1 := Scalar.cmpi .sge v274 c0_i32_156
  let v276 : BitVec 1 := Scalar.andi v12 v275
  let v277 : BitVec 32 := Scalar.extui v276
  let c0_i32_157 : BitVec 32 := 0#32
  let v278 : BitVec 1 := Scalar.cmpi .ne v277 c0_i32_157
  v278

def k0_off96 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c0_i32_280 : BitVec 32 := 0#32
  let v490 : BitVec 32 := Scalar.addi v489 c0_i32_280
  let c0_i32_287 : BitVec 32 := 0#32
  ![v490.toNat, 0]
def k0_off97 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_281 : BitVec 32 := 4096#32
  let v491 : BitVec 32 := Scalar.muli v488 c4096_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_282 : BitVec 32 := 2048#32
  let v492 : BitVec 32 := Scalar.muli v2 c2048_i32_282
  let v493 : BitVec 32 := Scalar.addi v491 v492
  let c0_i32_283 : BitVec 32 := 0#32
  let v494 : BitVec 32 := Scalar.addi v493 c0_i32_283
  let c0_i32_288 : BitVec 32 := 0#32
  ![v494.toNat, 0]
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_158 : BitVec 32 := 1#32
  let v279 : BitVec 32 := Scalar.subi v5 c1_i32_158
  let c0_i32_159 : BitVec 32 := 0#32
  let v280 : BitVec 1 := Scalar.cmpi .sge v279 c0_i32_159
  let v281 : BitVec 1 := Scalar.andi v12 v280
  let v282 : BitVec 32 := Scalar.extui v281
  let c0_i32_160 : BitVec 32 := 0#32
  let v283 : BitVec 1 := Scalar.cmpi .ne v282 c0_i32_160
  v283

def k0_off98 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c0_i32_280 : BitVec 32 := 0#32
  let v489 : BitVec 32 := Scalar.subi v488 c0_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c512_i32_286 : BitVec 32 := 512#32
  let v499 : BitVec 32 := Scalar.addi v498 c512_i32_286
  let c0_i32_293 : BitVec 32 := 0#32
  ![v499.toNat, 0]
def k0_off99 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.subi v5 c1_i32_295
  let c0_i32_296 : BitVec 32 := 0#32
  let v511 : BitVec 32 := Scalar.subi v510 c0_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c512_i32_299 : BitVec 32 := 512#32
  let v515 : BitVec 32 := Scalar.addi v514 c512_i32_299
  let c0_i32_306 : BitVec 32 := 0#32
  ![v515.toNat, 0]
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_161 : BitVec 32 := 2#32
  let v284 : BitVec 32 := Scalar.subi c2_i32_161 v5
  let c0_i32_162 : BitVec 32 := 0#32
  let v285 : BitVec 1 := Scalar.cmpi .sge v284 c0_i32_162
  let v286 : BitVec 1 := Scalar.andi v13 v285
  let v287 : BitVec 32 := Scalar.extui v286
  let c0_i32_163 : BitVec 32 := 0#32
  let v288 : BitVec 1 := Scalar.cmpi .ne v287 c0_i32_163
  v288

def k0_off100 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c0_i32_280 : BitVec 32 := 0#32
  let v489 : BitVec 32 := Scalar.addi v488 c0_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c512_i32_286 : BitVec 32 := 512#32
  let v499 : BitVec 32 := Scalar.addi v498 c512_i32_286
  let c0_i32_293 : BitVec 32 := 0#32
  ![v499.toNat, 0]
def k0_off101 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.addi v5 c1_i32_295
  let c0_i32_296 : BitVec 32 := 0#32
  let v511 : BitVec 32 := Scalar.addi v510 c0_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c512_i32_299 : BitVec 32 := 512#32
  let v515 : BitVec 32 := Scalar.addi v514 c512_i32_299
  let c0_i32_306 : BitVec 32 := 0#32
  ![v515.toNat, 0]
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_164 : BitVec 32 := 0#32
  let v289 : BitVec 1 := Scalar.cmpi .sge v5 c0_i32_164
  let v290 : BitVec 1 := Scalar.andi v13 v289
  let v291 : BitVec 32 := Scalar.extui v290
  let c0_i32_165 : BitVec 32 := 0#32
  let v292 : BitVec 1 := Scalar.cmpi .ne v291 c0_i32_165
  v292

def k0_off102 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c512_i32 : BitVec 32 := 512#32
  let v490 : BitVec 32 := Scalar.addi v489 c512_i32
  let c0_i32_286 : BitVec 32 := 0#32
  ![v490.toNat, 0]
def k0_off103 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c512_i32_282 : BitVec 32 := 512#32
  let v494 : BitVec 32 := Scalar.addi v493 c512_i32_282
  let c0_i32_287 : BitVec 32 := 0#32
  ![v494.toNat, 0]
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_166 : BitVec 32 := 3#32
  let v293 : BitVec 32 := Scalar.subi c3_i32_166 v5
  let c0_i32_167 : BitVec 32 := 0#32
  let v294 : BitVec 1 := Scalar.cmpi .sge v293 c0_i32_167
  let v295 : BitVec 1 := Scalar.andi v12 v294
  let v296 : BitVec 32 := Scalar.extui v295
  let c0_i32_168 : BitVec 32 := 0#32
  let v297 : BitVec 1 := Scalar.cmpi .ne v296 c0_i32_168
  v297

def k0_off104 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c512_i32 : BitVec 32 := 512#32
  let v490 : BitVec 32 := Scalar.addi v489 c512_i32
  let c0_i32_286 : BitVec 32 := 0#32
  ![v490.toNat, 0]
def k0_off105 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c512_i32_282 : BitVec 32 := 512#32
  let v494 : BitVec 32 := Scalar.addi v493 c512_i32_282
  let c0_i32_287 : BitVec 32 := 0#32
  ![v494.toNat, 0]
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_169 : BitVec 32 := 1#32
  let v298 : BitVec 32 := Scalar.subi v5 c1_i32_169
  let c0_i32_170 : BitVec 32 := 0#32
  let v299 : BitVec 1 := Scalar.cmpi .sge v298 c0_i32_170
  let v300 : BitVec 1 := Scalar.andi v12 v299
  let v301 : BitVec 32 := Scalar.extui v300
  let c0_i32_171 : BitVec 32 := 0#32
  let v302 : BitVec 1 := Scalar.cmpi .ne v301 c0_i32_171
  v302

def k0_off106 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c0_i32_280 : BitVec 32 := 0#32
  let v489 : BitVec 32 := Scalar.subi v488 c0_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1024_i32_286 : BitVec 32 := 1024#32
  let v499 : BitVec 32 := Scalar.addi v498 c1024_i32_286
  let c0_i32_293 : BitVec 32 := 0#32
  ![v499.toNat, 0]
def k0_off107 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.subi v5 c1_i32_295
  let c0_i32_296 : BitVec 32 := 0#32
  let v511 : BitVec 32 := Scalar.subi v510 c0_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c1024_i32_299 : BitVec 32 := 1024#32
  let v515 : BitVec 32 := Scalar.addi v514 c1024_i32_299
  let c0_i32_306 : BitVec 32 := 0#32
  ![v515.toNat, 0]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_172 : BitVec 32 := 2#32
  let v303 : BitVec 32 := Scalar.subi c2_i32_172 v5
  let c0_i32_173 : BitVec 32 := 0#32
  let v304 : BitVec 1 := Scalar.cmpi .sge v303 c0_i32_173
  let v305 : BitVec 1 := Scalar.andi v13 v304
  let v306 : BitVec 32 := Scalar.extui v305
  let c0_i32_174 : BitVec 32 := 0#32
  let v307 : BitVec 1 := Scalar.cmpi .ne v306 c0_i32_174
  v307

def k0_off108 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c0_i32_280 : BitVec 32 := 0#32
  let v489 : BitVec 32 := Scalar.addi v488 c0_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1024_i32_286 : BitVec 32 := 1024#32
  let v499 : BitVec 32 := Scalar.addi v498 c1024_i32_286
  let c0_i32_293 : BitVec 32 := 0#32
  ![v499.toNat, 0]
def k0_off109 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.addi v5 c1_i32_295
  let c0_i32_296 : BitVec 32 := 0#32
  let v511 : BitVec 32 := Scalar.addi v510 c0_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c1024_i32_299 : BitVec 32 := 1024#32
  let v515 : BitVec 32 := Scalar.addi v514 c1024_i32_299
  let c0_i32_306 : BitVec 32 := 0#32
  ![v515.toNat, 0]
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_175 : BitVec 32 := 0#32
  let v308 : BitVec 1 := Scalar.cmpi .sge v5 c0_i32_175
  let v309 : BitVec 1 := Scalar.andi v13 v308
  let v310 : BitVec 32 := Scalar.extui v309
  let c0_i32_176 : BitVec 32 := 0#32
  let v311 : BitVec 1 := Scalar.cmpi .ne v310 c0_i32_176
  v311

def k0_off110 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1024_i32 : BitVec 32 := 1024#32
  let v490 : BitVec 32 := Scalar.addi v489 c1024_i32
  let c0_i32_286 : BitVec 32 := 0#32
  ![v490.toNat, 0]
def k0_off111 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1024_i32_282 : BitVec 32 := 1024#32
  let v494 : BitVec 32 := Scalar.addi v493 c1024_i32_282
  let c0_i32_287 : BitVec 32 := 0#32
  ![v494.toNat, 0]
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_177 : BitVec 32 := 3#32
  let v312 : BitVec 32 := Scalar.subi c3_i32_177 v5
  let c0_i32_178 : BitVec 32 := 0#32
  let v313 : BitVec 1 := Scalar.cmpi .sge v312 c0_i32_178
  let v314 : BitVec 1 := Scalar.andi v12 v313
  let v315 : BitVec 32 := Scalar.extui v314
  let c0_i32_179 : BitVec 32 := 0#32
  let v316 : BitVec 1 := Scalar.cmpi .ne v315 c0_i32_179
  v316

def k0_off112 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1024_i32 : BitVec 32 := 1024#32
  let v490 : BitVec 32 := Scalar.addi v489 c1024_i32
  let c0_i32_286 : BitVec 32 := 0#32
  ![v490.toNat, 0]
def k0_off113 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1024_i32_282 : BitVec 32 := 1024#32
  let v494 : BitVec 32 := Scalar.addi v493 c1024_i32_282
  let c0_i32_287 : BitVec 32 := 0#32
  ![v494.toNat, 0]
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_180 : BitVec 32 := 1#32
  let v317 : BitVec 32 := Scalar.subi v5 c1_i32_180
  let c0_i32_181 : BitVec 32 := 0#32
  let v318 : BitVec 1 := Scalar.cmpi .sge v317 c0_i32_181
  let v319 : BitVec 1 := Scalar.andi v12 v318
  let v320 : BitVec 32 := Scalar.extui v319
  let c0_i32_182 : BitVec 32 := 0#32
  let v321 : BitVec 1 := Scalar.cmpi .ne v320 c0_i32_182
  v321

def k0_off114 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c0_i32_280 : BitVec 32 := 0#32
  let v489 : BitVec 32 := Scalar.subi v488 c0_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1536_i32_286 : BitVec 32 := 1536#32
  let v499 : BitVec 32 := Scalar.addi v498 c1536_i32_286
  let c0_i32_293 : BitVec 32 := 0#32
  ![v499.toNat, 0]
def k0_off115 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.subi v5 c1_i32_295
  let c0_i32_296 : BitVec 32 := 0#32
  let v511 : BitVec 32 := Scalar.subi v510 c0_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c1536_i32_299 : BitVec 32 := 1536#32
  let v515 : BitVec 32 := Scalar.addi v514 c1536_i32_299
  let c0_i32_306 : BitVec 32 := 0#32
  ![v515.toNat, 0]
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_183 : BitVec 32 := 2#32
  let v322 : BitVec 32 := Scalar.subi c2_i32_183 v5
  let c0_i32_184 : BitVec 32 := 0#32
  let v323 : BitVec 1 := Scalar.cmpi .sge v322 c0_i32_184
  let v324 : BitVec 1 := Scalar.andi v13 v323
  let v325 : BitVec 32 := Scalar.extui v324
  let c0_i32_185 : BitVec 32 := 0#32
  let v326 : BitVec 1 := Scalar.cmpi .ne v325 c0_i32_185
  v326

def k0_off116 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c0_i32_280 : BitVec 32 := 0#32
  let v489 : BitVec 32 := Scalar.addi v488 c0_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1536_i32_286 : BitVec 32 := 1536#32
  let v499 : BitVec 32 := Scalar.addi v498 c1536_i32_286
  let c0_i32_293 : BitVec 32 := 0#32
  ![v499.toNat, 0]
def k0_off117 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.addi v5 c1_i32_295
  let c0_i32_296 : BitVec 32 := 0#32
  let v511 : BitVec 32 := Scalar.addi v510 c0_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c1536_i32_299 : BitVec 32 := 1536#32
  let v515 : BitVec 32 := Scalar.addi v514 c1536_i32_299
  let c0_i32_306 : BitVec 32 := 0#32
  ![v515.toNat, 0]
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c0_i32_186 : BitVec 32 := 0#32
  let v327 : BitVec 1 := Scalar.cmpi .sge v5 c0_i32_186
  let v328 : BitVec 1 := Scalar.andi v13 v327
  let v329 : BitVec 32 := Scalar.extui v328
  let c0_i32_187 : BitVec 32 := 0#32
  let v330 : BitVec 1 := Scalar.cmpi .ne v329 c0_i32_187
  v330

def k0_off118 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1536_i32 : BitVec 32 := 1536#32
  let v490 : BitVec 32 := Scalar.addi v489 c1536_i32
  let c0_i32_286 : BitVec 32 := 0#32
  ![v490.toNat, 0]
def k0_off119 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.subi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1536_i32_282 : BitVec 32 := 1536#32
  let v494 : BitVec 32 := Scalar.addi v493 c1536_i32_282
  let c0_i32_287 : BitVec 32 := 0#32
  ![v494.toNat, 0]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_188 : BitVec 32 := 3#32
  let v331 : BitVec 32 := Scalar.subi c3_i32_188 v5
  let c0_i32_189 : BitVec 32 := 0#32
  let v332 : BitVec 1 := Scalar.cmpi .sge v331 c0_i32_189
  let v333 : BitVec 1 := Scalar.andi v12 v332
  let v334 : BitVec 32 := Scalar.extui v333
  let c0_i32_190 : BitVec 32 := 0#32
  let v335 : BitVec 1 := Scalar.cmpi .ne v334 c0_i32_190
  v335

def k0_off120 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v489 : BitVec 32 := Scalar.muli v2 c2048_i32
  let c1536_i32 : BitVec 32 := 1536#32
  let v490 : BitVec 32 := Scalar.addi v489 c1536_i32
  let c0_i32_286 : BitVec 32 := 0#32
  ![v490.toNat, 0]
def k0_off121 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v488 : BitVec 32 := Scalar.addi v5 c0_i32_279
  let c4096_i32_280 : BitVec 32 := 4096#32
  let v491 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_281 : BitVec 32 := 2048#32
  let v492 : BitVec 32 := Scalar.muli v2 c2048_i32_281
  let v493 : BitVec 32 := Scalar.addi v491 v492
  let c1536_i32_282 : BitVec 32 := 1536#32
  let v494 : BitVec 32 := Scalar.addi v493 c1536_i32_282
  let c0_i32_287 : BitVec 32 := 0#32
  ![v494.toNat, 0]
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_191 : BitVec 32 := 1#32
  let v336 : BitVec 32 := Scalar.subi v5 c1_i32_191
  let c1_i32_192 : BitVec 32 := 1#32
  let v337 : BitVec 1 := Scalar.cmpi .sge v336 c1_i32_192
  let v338 : BitVec 1 := Scalar.andi v12 v337
  let v339 : BitVec 32 := Scalar.extui v338
  let c0_i32_193 : BitVec 32 := 0#32
  let v340 : BitVec 1 := Scalar.cmpi .ne v339 c0_i32_193
  v340

def k0_off122 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c1_i32_280 : BitVec 32 := 1#32
  let v489 : BitVec 32 := Scalar.subi v488 c1_i32_280
  let c4096_i32_285 : BitVec 32 := 4096#32
  let v496 : BitVec 32 := Scalar.muli v489 c4096_i32_285
  let c1_i32_284 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_284 v2
  let c2048_i32_286 : BitVec 32 := 2048#32
  let v497 : BitVec 32 := Scalar.muli v495 c2048_i32_286
  let v498 : BitVec 32 := Scalar.addi v496 v497
  let c0_i32_287 : BitVec 32 := 0#32
  let v499 : BitVec 32 := Scalar.addi v498 c0_i32_287
  let c0_i32_294 : BitVec 32 := 0#32
  ![v499.toNat, 0]
def k0_off123 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_296 : BitVec 32 := 1#32
  let v510 : BitVec 32 := Scalar.subi v5 c1_i32_296
  let c1_i32_297 : BitVec 32 := 1#32
  let v511 : BitVec 32 := Scalar.subi v510 c1_i32_297
  let c4096_i32_298 : BitVec 32 := 4096#32
  let v512 : BitVec 32 := Scalar.muli v511 c4096_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_299 : BitVec 32 := 2048#32
  let v513 : BitVec 32 := Scalar.muli v2 c2048_i32_299
  let v514 : BitVec 32 := Scalar.addi v512 v513
  let c0_i32_300 : BitVec 32 := 0#32
  let v515 : BitVec 32 := Scalar.addi v514 c0_i32_300
  let c0_i32_307 : BitVec 32 := 0#32
  ![v515.toNat, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_194 : BitVec 32 := 2#32
  let v341 : BitVec 32 := Scalar.subi c2_i32_194 v5
  let c1_i32_195 : BitVec 32 := 1#32
  let v342 : BitVec 1 := Scalar.cmpi .sge v341 c1_i32_195
  let v343 : BitVec 1 := Scalar.andi v13 v342
  let v344 : BitVec 32 := Scalar.extui v343
  let c0_i32_196 : BitVec 32 := 0#32
  let v345 : BitVec 1 := Scalar.cmpi .ne v344 c0_i32_196
  v345

def k0_off124 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c1_i32_280 : BitVec 32 := 1#32
  let v489 : BitVec 32 := Scalar.addi v488 c1_i32_280
  let c4096_i32_285 : BitVec 32 := 4096#32
  let v496 : BitVec 32 := Scalar.muli v489 c4096_i32_285
  let c1_i32_284 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_284 v2
  let c2048_i32_286 : BitVec 32 := 2048#32
  let v497 : BitVec 32 := Scalar.muli v495 c2048_i32_286
  let v498 : BitVec 32 := Scalar.addi v496 v497
  let c0_i32_287 : BitVec 32 := 0#32
  let v499 : BitVec 32 := Scalar.addi v498 c0_i32_287
  let c0_i32_294 : BitVec 32 := 0#32
  ![v499.toNat, 0]
def k0_off125 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_296 : BitVec 32 := 1#32
  let v510 : BitVec 32 := Scalar.addi v5 c1_i32_296
  let c1_i32_297 : BitVec 32 := 1#32
  let v511 : BitVec 32 := Scalar.addi v510 c1_i32_297
  let c4096_i32_298 : BitVec 32 := 4096#32
  let v512 : BitVec 32 := Scalar.muli v511 c4096_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_299 : BitVec 32 := 2048#32
  let v513 : BitVec 32 := Scalar.muli v2 c2048_i32_299
  let v514 : BitVec 32 := Scalar.addi v512 v513
  let c0_i32_300 : BitVec 32 := 0#32
  let v515 : BitVec 32 := Scalar.addi v514 c0_i32_300
  let c0_i32_307 : BitVec 32 := 0#32
  ![v515.toNat, 0]
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_197 : BitVec 32 := 1#32
  let v346 : BitVec 1 := Scalar.cmpi .sge v5 c1_i32_197
  let v347 : BitVec 1 := Scalar.andi v13 v346
  let v348 : BitVec 32 := Scalar.extui v347
  let c0_i32_198 : BitVec 32 := 0#32
  let v349 : BitVec 1 := Scalar.cmpi .ne v348 c0_i32_198
  v349

def k0_off126 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c0_i32_281 : BitVec 32 := 0#32
  let v492 : BitVec 32 := Scalar.addi v491 c0_i32_281
  let c0_i32_288 : BitVec 32 := 0#32
  ![v492.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_199 : BitVec 32 := 3#32
  let v350 : BitVec 32 := Scalar.subi c3_i32_199 v5
  let c1_i32_200 : BitVec 32 := 1#32
  let v351 : BitVec 1 := Scalar.cmpi .sge v350 c1_i32_200
  let v352 : BitVec 1 := Scalar.andi v12 v351
  let v353 : BitVec 32 := Scalar.extui v352
  let c0_i32_201 : BitVec 32 := 0#32
  let v354 : BitVec 1 := Scalar.cmpi .ne v353 c0_i32_201
  v354

def k0_off127 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c0_i32_281 : BitVec 32 := 0#32
  let v492 : BitVec 32 := Scalar.addi v491 c0_i32_281
  let c0_i32_288 : BitVec 32 := 0#32
  ![v492.toNat, 0]
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_202 : BitVec 32 := 1#32
  let v355 : BitVec 32 := Scalar.subi v5 c1_i32_202
  let c1_i32_203 : BitVec 32 := 1#32
  let v356 : BitVec 1 := Scalar.cmpi .sge v355 c1_i32_203
  let v357 : BitVec 1 := Scalar.andi v12 v356
  let v358 : BitVec 32 := Scalar.extui v357
  let c0_i32_204 : BitVec 32 := 0#32
  let v359 : BitVec 1 := Scalar.cmpi .ne v358 c0_i32_204
  v359

def k0_off128 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c1_i32_280 : BitVec 32 := 1#32
  let v489 : BitVec 32 := Scalar.subi v488 c1_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c512_i32_286 : BitVec 32 := 512#32
  let v499 : BitVec 32 := Scalar.addi v498 c512_i32_286
  let c0_i32_292 : BitVec 32 := 0#32
  ![v499.toNat, 0]
def k0_off129 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.subi v5 c1_i32_294
  let c1_i32_295 : BitVec 32 := 1#32
  let v511 : BitVec 32 := Scalar.subi v510 c1_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c512_i32_298 : BitVec 32 := 512#32
  let v515 : BitVec 32 := Scalar.addi v514 c512_i32_298
  let c0_i32_305 : BitVec 32 := 0#32
  ![v515.toNat, 0]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_205 : BitVec 32 := 2#32
  let v360 : BitVec 32 := Scalar.subi c2_i32_205 v5
  let c1_i32_206 : BitVec 32 := 1#32
  let v361 : BitVec 1 := Scalar.cmpi .sge v360 c1_i32_206
  let v362 : BitVec 1 := Scalar.andi v13 v361
  let v363 : BitVec 32 := Scalar.extui v362
  let c0_i32_207 : BitVec 32 := 0#32
  let v364 : BitVec 1 := Scalar.cmpi .ne v363 c0_i32_207
  v364

def k0_off130 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c1_i32_280 : BitVec 32 := 1#32
  let v489 : BitVec 32 := Scalar.addi v488 c1_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c512_i32_286 : BitVec 32 := 512#32
  let v499 : BitVec 32 := Scalar.addi v498 c512_i32_286
  let c0_i32_292 : BitVec 32 := 0#32
  ![v499.toNat, 0]
def k0_off131 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.addi v5 c1_i32_294
  let c1_i32_295 : BitVec 32 := 1#32
  let v511 : BitVec 32 := Scalar.addi v510 c1_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c512_i32_298 : BitVec 32 := 512#32
  let v515 : BitVec 32 := Scalar.addi v514 c512_i32_298
  let c0_i32_305 : BitVec 32 := 0#32
  ![v515.toNat, 0]
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_208 : BitVec 32 := 1#32
  let v365 : BitVec 1 := Scalar.cmpi .sge v5 c1_i32_208
  let v366 : BitVec 1 := Scalar.andi v13 v365
  let v367 : BitVec 32 := Scalar.extui v366
  let c0_i32_209 : BitVec 32 := 0#32
  let v368 : BitVec 1 := Scalar.cmpi .ne v367 c0_i32_209
  v368

def k0_off132 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c512_i32 : BitVec 32 := 512#32
  let v492 : BitVec 32 := Scalar.addi v491 c512_i32
  let c0_i32_286 : BitVec 32 := 0#32
  ![v492.toNat, 0]
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_210 : BitVec 32 := 3#32
  let v369 : BitVec 32 := Scalar.subi c3_i32_210 v5
  let c1_i32_211 : BitVec 32 := 1#32
  let v370 : BitVec 1 := Scalar.cmpi .sge v369 c1_i32_211
  let v371 : BitVec 1 := Scalar.andi v12 v370
  let v372 : BitVec 32 := Scalar.extui v371
  let c0_i32_212 : BitVec 32 := 0#32
  let v373 : BitVec 1 := Scalar.cmpi .ne v372 c0_i32_212
  v373

def k0_off133 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c512_i32 : BitVec 32 := 512#32
  let v492 : BitVec 32 := Scalar.addi v491 c512_i32
  let c0_i32_286 : BitVec 32 := 0#32
  ![v492.toNat, 0]
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_213 : BitVec 32 := 1#32
  let v374 : BitVec 32 := Scalar.subi v5 c1_i32_213
  let c1_i32_214 : BitVec 32 := 1#32
  let v375 : BitVec 1 := Scalar.cmpi .sge v374 c1_i32_214
  let v376 : BitVec 1 := Scalar.andi v12 v375
  let v377 : BitVec 32 := Scalar.extui v376
  let c0_i32_215 : BitVec 32 := 0#32
  let v378 : BitVec 1 := Scalar.cmpi .ne v377 c0_i32_215
  v378

def k0_off134 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c1_i32_280 : BitVec 32 := 1#32
  let v489 : BitVec 32 := Scalar.subi v488 c1_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1024_i32_286 : BitVec 32 := 1024#32
  let v499 : BitVec 32 := Scalar.addi v498 c1024_i32_286
  let c0_i32_292 : BitVec 32 := 0#32
  ![v499.toNat, 0]
def k0_off135 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.subi v5 c1_i32_294
  let c1_i32_295 : BitVec 32 := 1#32
  let v511 : BitVec 32 := Scalar.subi v510 c1_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1024_i32_298 : BitVec 32 := 1024#32
  let v515 : BitVec 32 := Scalar.addi v514 c1024_i32_298
  let c0_i32_305 : BitVec 32 := 0#32
  ![v515.toNat, 0]
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_216 : BitVec 32 := 2#32
  let v379 : BitVec 32 := Scalar.subi c2_i32_216 v5
  let c1_i32_217 : BitVec 32 := 1#32
  let v380 : BitVec 1 := Scalar.cmpi .sge v379 c1_i32_217
  let v381 : BitVec 1 := Scalar.andi v13 v380
  let v382 : BitVec 32 := Scalar.extui v381
  let c0_i32_218 : BitVec 32 := 0#32
  let v383 : BitVec 1 := Scalar.cmpi .ne v382 c0_i32_218
  v383

def k0_off136 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c1_i32_280 : BitVec 32 := 1#32
  let v489 : BitVec 32 := Scalar.addi v488 c1_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1024_i32_286 : BitVec 32 := 1024#32
  let v499 : BitVec 32 := Scalar.addi v498 c1024_i32_286
  let c0_i32_292 : BitVec 32 := 0#32
  ![v499.toNat, 0]
def k0_off137 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.addi v5 c1_i32_294
  let c1_i32_295 : BitVec 32 := 1#32
  let v511 : BitVec 32 := Scalar.addi v510 c1_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1024_i32_298 : BitVec 32 := 1024#32
  let v515 : BitVec 32 := Scalar.addi v514 c1024_i32_298
  let c0_i32_305 : BitVec 32 := 0#32
  ![v515.toNat, 0]
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_219 : BitVec 32 := 1#32
  let v384 : BitVec 1 := Scalar.cmpi .sge v5 c1_i32_219
  let v385 : BitVec 1 := Scalar.andi v13 v384
  let v386 : BitVec 32 := Scalar.extui v385
  let c0_i32_220 : BitVec 32 := 0#32
  let v387 : BitVec 1 := Scalar.cmpi .ne v386 c0_i32_220
  v387

def k0_off138 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1024_i32 : BitVec 32 := 1024#32
  let v492 : BitVec 32 := Scalar.addi v491 c1024_i32
  let c0_i32_286 : BitVec 32 := 0#32
  ![v492.toNat, 0]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_221 : BitVec 32 := 3#32
  let v388 : BitVec 32 := Scalar.subi c3_i32_221 v5
  let c1_i32_222 : BitVec 32 := 1#32
  let v389 : BitVec 1 := Scalar.cmpi .sge v388 c1_i32_222
  let v390 : BitVec 1 := Scalar.andi v12 v389
  let v391 : BitVec 32 := Scalar.extui v390
  let c0_i32_223 : BitVec 32 := 0#32
  let v392 : BitVec 1 := Scalar.cmpi .ne v391 c0_i32_223
  v392

def k0_off139 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1024_i32 : BitVec 32 := 1024#32
  let v492 : BitVec 32 := Scalar.addi v491 c1024_i32
  let c0_i32_286 : BitVec 32 := 0#32
  ![v492.toNat, 0]
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_224 : BitVec 32 := 1#32
  let v393 : BitVec 32 := Scalar.subi v5 c1_i32_224
  let c1_i32_225 : BitVec 32 := 1#32
  let v394 : BitVec 1 := Scalar.cmpi .sge v393 c1_i32_225
  let v395 : BitVec 1 := Scalar.andi v12 v394
  let v396 : BitVec 32 := Scalar.extui v395
  let c0_i32_226 : BitVec 32 := 0#32
  let v397 : BitVec 1 := Scalar.cmpi .ne v396 c0_i32_226
  v397

def k0_off140 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c1_i32_280 : BitVec 32 := 1#32
  let v489 : BitVec 32 := Scalar.subi v488 c1_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1536_i32_286 : BitVec 32 := 1536#32
  let v499 : BitVec 32 := Scalar.addi v498 c1536_i32_286
  let c0_i32_292 : BitVec 32 := 0#32
  ![v499.toNat, 0]
def k0_off141 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.subi v5 c1_i32_294
  let c1_i32_295 : BitVec 32 := 1#32
  let v511 : BitVec 32 := Scalar.subi v510 c1_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1536_i32_298 : BitVec 32 := 1536#32
  let v515 : BitVec 32 := Scalar.addi v514 c1536_i32_298
  let c0_i32_305 : BitVec 32 := 0#32
  ![v515.toNat, 0]
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_227 : BitVec 32 := 2#32
  let v398 : BitVec 32 := Scalar.subi c2_i32_227 v5
  let c1_i32_228 : BitVec 32 := 1#32
  let v399 : BitVec 1 := Scalar.cmpi .sge v398 c1_i32_228
  let v400 : BitVec 1 := Scalar.andi v13 v399
  let v401 : BitVec 32 := Scalar.extui v400
  let c0_i32_229 : BitVec 32 := 0#32
  let v402 : BitVec 1 := Scalar.cmpi .ne v401 c0_i32_229
  v402

def k0_off142 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c1_i32_280 : BitVec 32 := 1#32
  let v489 : BitVec 32 := Scalar.addi v488 c1_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1536_i32_286 : BitVec 32 := 1536#32
  let v499 : BitVec 32 := Scalar.addi v498 c1536_i32_286
  let c0_i32_292 : BitVec 32 := 0#32
  ![v499.toNat, 0]
def k0_off143 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.addi v5 c1_i32_294
  let c1_i32_295 : BitVec 32 := 1#32
  let v511 : BitVec 32 := Scalar.addi v510 c1_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1536_i32_298 : BitVec 32 := 1536#32
  let v515 : BitVec 32 := Scalar.addi v514 c1536_i32_298
  let c0_i32_305 : BitVec 32 := 0#32
  ![v515.toNat, 0]
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c1_i32_230 : BitVec 32 := 1#32
  let v403 : BitVec 1 := Scalar.cmpi .sge v5 c1_i32_230
  let v404 : BitVec 1 := Scalar.andi v13 v403
  let v405 : BitVec 32 := Scalar.extui v404
  let c0_i32_231 : BitVec 32 := 0#32
  let v406 : BitVec 1 := Scalar.cmpi .ne v405 c0_i32_231
  v406

def k0_off144 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1536_i32 : BitVec 32 := 1536#32
  let v492 : BitVec 32 := Scalar.addi v491 c1536_i32
  let c0_i32_286 : BitVec 32 := 0#32
  ![v492.toNat, 0]
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_232 : BitVec 32 := 3#32
  let v407 : BitVec 32 := Scalar.subi c3_i32_232 v5
  let c1_i32_233 : BitVec 32 := 1#32
  let v408 : BitVec 1 := Scalar.cmpi .sge v407 c1_i32_233
  let v409 : BitVec 1 := Scalar.andi v12 v408
  let v410 : BitVec 32 := Scalar.extui v409
  let c0_i32_234 : BitVec 32 := 0#32
  let v411 : BitVec 1 := Scalar.cmpi .ne v410 c0_i32_234
  v411

def k0_off145 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1536_i32 : BitVec 32 := 1536#32
  let v492 : BitVec 32 := Scalar.addi v491 c1536_i32
  let c0_i32_286 : BitVec 32 := 0#32
  ![v492.toNat, 0]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_235 : BitVec 32 := 1#32
  let v412 : BitVec 32 := Scalar.subi v5 c1_i32_235
  let c2_i32_236 : BitVec 32 := 2#32
  let v413 : BitVec 1 := Scalar.cmpi .sge v412 c2_i32_236
  let v414 : BitVec 1 := Scalar.andi v12 v413
  let v415 : BitVec 32 := Scalar.extui v414
  let c0_i32_237 : BitVec 32 := 0#32
  let v416 : BitVec 1 := Scalar.cmpi .ne v415 c0_i32_237
  v416

def k0_off146 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c2_i32_280 : BitVec 32 := 2#32
  let v489 : BitVec 32 := Scalar.subi v488 c2_i32_280
  let c4096_i32_285 : BitVec 32 := 4096#32
  let v496 : BitVec 32 := Scalar.muli v489 c4096_i32_285
  let c1_i32_284 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_284 v2
  let c2048_i32_286 : BitVec 32 := 2048#32
  let v497 : BitVec 32 := Scalar.muli v495 c2048_i32_286
  let v498 : BitVec 32 := Scalar.addi v496 v497
  let c0_i32_287 : BitVec 32 := 0#32
  let v499 : BitVec 32 := Scalar.addi v498 c0_i32_287
  let c0_i32_293 : BitVec 32 := 0#32
  ![v499.toNat, 0]
def k0_off147 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.subi v5 c1_i32_295
  let c2_i32_296 : BitVec 32 := 2#32
  let v511 : BitVec 32 := Scalar.subi v510 c2_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c0_i32_299 : BitVec 32 := 0#32
  let v515 : BitVec 32 := Scalar.addi v514 c0_i32_299
  let c0_i32_306 : BitVec 32 := 0#32
  ![v515.toNat, 0]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_238 : BitVec 32 := 2#32
  let v417 : BitVec 32 := Scalar.subi c2_i32_238 v5
  let c2_i32_239 : BitVec 32 := 2#32
  let v418 : BitVec 1 := Scalar.cmpi .sge v417 c2_i32_239
  let v419 : BitVec 1 := Scalar.andi v13 v418
  let v420 : BitVec 32 := Scalar.extui v419
  let c0_i32_240 : BitVec 32 := 0#32
  let v421 : BitVec 1 := Scalar.cmpi .ne v420 c0_i32_240
  v421

def k0_off148 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c2_i32_280 : BitVec 32 := 2#32
  let v489 : BitVec 32 := Scalar.addi v488 c2_i32_280
  let c4096_i32_285 : BitVec 32 := 4096#32
  let v496 : BitVec 32 := Scalar.muli v489 c4096_i32_285
  let c1_i32_284 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_284 v2
  let c2048_i32_286 : BitVec 32 := 2048#32
  let v497 : BitVec 32 := Scalar.muli v495 c2048_i32_286
  let v498 : BitVec 32 := Scalar.addi v496 v497
  let c0_i32_287 : BitVec 32 := 0#32
  let v499 : BitVec 32 := Scalar.addi v498 c0_i32_287
  let c0_i32_293 : BitVec 32 := 0#32
  ![v499.toNat, 0]
def k0_off149 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295 : BitVec 32 := 1#32
  let v510 : BitVec 32 := Scalar.addi v5 c1_i32_295
  let c2_i32_296 : BitVec 32 := 2#32
  let v511 : BitVec 32 := Scalar.addi v510 c2_i32_296
  let c4096_i32_297 : BitVec 32 := 4096#32
  let v512 : BitVec 32 := Scalar.muli v511 c4096_i32_297
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_298 : BitVec 32 := 2048#32
  let v513 : BitVec 32 := Scalar.muli v2 c2048_i32_298
  let v514 : BitVec 32 := Scalar.addi v512 v513
  let c0_i32_299 : BitVec 32 := 0#32
  let v515 : BitVec 32 := Scalar.addi v514 c0_i32_299
  let c0_i32_306 : BitVec 32 := 0#32
  ![v515.toNat, 0]
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_241 : BitVec 32 := 2#32
  let v422 : BitVec 1 := Scalar.cmpi .sge v5 c2_i32_241
  let v423 : BitVec 1 := Scalar.andi v13 v422
  let v424 : BitVec 32 := Scalar.extui v423
  let c0_i32_242 : BitVec 32 := 0#32
  let v425 : BitVec 1 := Scalar.cmpi .ne v424 c0_i32_242
  v425

def k0_off150 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c0_i32_281 : BitVec 32 := 0#32
  let v492 : BitVec 32 := Scalar.addi v491 c0_i32_281
  let c0_i32_287 : BitVec 32 := 0#32
  ![v492.toNat, 0]
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_243 : BitVec 32 := 3#32
  let v426 : BitVec 32 := Scalar.subi c3_i32_243 v5
  let c2_i32_244 : BitVec 32 := 2#32
  let v427 : BitVec 1 := Scalar.cmpi .sge v426 c2_i32_244
  let v428 : BitVec 1 := Scalar.andi v12 v427
  let v429 : BitVec 32 := Scalar.extui v428
  let c0_i32_245 : BitVec 32 := 0#32
  let v430 : BitVec 1 := Scalar.cmpi .ne v429 c0_i32_245
  v430

def k0_off151 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c0_i32_281 : BitVec 32 := 0#32
  let v492 : BitVec 32 := Scalar.addi v491 c0_i32_281
  let c0_i32_287 : BitVec 32 := 0#32
  ![v492.toNat, 0]
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_246 : BitVec 32 := 1#32
  let v431 : BitVec 32 := Scalar.subi v5 c1_i32_246
  let c2_i32_247 : BitVec 32 := 2#32
  let v432 : BitVec 1 := Scalar.cmpi .sge v431 c2_i32_247
  let v433 : BitVec 1 := Scalar.andi v12 v432
  let v434 : BitVec 32 := Scalar.extui v433
  let c0_i32_248 : BitVec 32 := 0#32
  let v435 : BitVec 1 := Scalar.cmpi .ne v434 c0_i32_248
  v435

def k0_off152 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c2_i32_280 : BitVec 32 := 2#32
  let v489 : BitVec 32 := Scalar.subi v488 c2_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c512_i32_286 : BitVec 32 := 512#32
  let v499 : BitVec 32 := Scalar.addi v498 c512_i32_286
  let c0_i32_292 : BitVec 32 := 0#32
  ![v499.toNat, 0]
def k0_off153 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.subi v5 c1_i32_294
  let c2_i32_295 : BitVec 32 := 2#32
  let v511 : BitVec 32 := Scalar.subi v510 c2_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c512_i32_298 : BitVec 32 := 512#32
  let v515 : BitVec 32 := Scalar.addi v514 c512_i32_298
  let c0_i32_305 : BitVec 32 := 0#32
  ![v515.toNat, 0]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_249 : BitVec 32 := 2#32
  let v436 : BitVec 32 := Scalar.subi c2_i32_249 v5
  let c2_i32_250 : BitVec 32 := 2#32
  let v437 : BitVec 1 := Scalar.cmpi .sge v436 c2_i32_250
  let v438 : BitVec 1 := Scalar.andi v13 v437
  let v439 : BitVec 32 := Scalar.extui v438
  let c0_i32_251 : BitVec 32 := 0#32
  let v440 : BitVec 1 := Scalar.cmpi .ne v439 c0_i32_251
  v440

def k0_off154 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c2_i32_280 : BitVec 32 := 2#32
  let v489 : BitVec 32 := Scalar.addi v488 c2_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c512_i32_286 : BitVec 32 := 512#32
  let v499 : BitVec 32 := Scalar.addi v498 c512_i32_286
  let c0_i32_292 : BitVec 32 := 0#32
  ![v499.toNat, 0]
def k0_off155 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.addi v5 c1_i32_294
  let c2_i32_295 : BitVec 32 := 2#32
  let v511 : BitVec 32 := Scalar.addi v510 c2_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c512_i32_298 : BitVec 32 := 512#32
  let v515 : BitVec 32 := Scalar.addi v514 c512_i32_298
  let c0_i32_305 : BitVec 32 := 0#32
  ![v515.toNat, 0]
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_252 : BitVec 32 := 2#32
  let v441 : BitVec 1 := Scalar.cmpi .sge v5 c2_i32_252
  let v442 : BitVec 1 := Scalar.andi v13 v441
  let v443 : BitVec 32 := Scalar.extui v442
  let c0_i32_253 : BitVec 32 := 0#32
  let v444 : BitVec 1 := Scalar.cmpi .ne v443 c0_i32_253
  v444

def k0_off156 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c512_i32 : BitVec 32 := 512#32
  let v492 : BitVec 32 := Scalar.addi v491 c512_i32
  let c0_i32_286 : BitVec 32 := 0#32
  ![v492.toNat, 0]
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_254 : BitVec 32 := 3#32
  let v445 : BitVec 32 := Scalar.subi c3_i32_254 v5
  let c2_i32_255 : BitVec 32 := 2#32
  let v446 : BitVec 1 := Scalar.cmpi .sge v445 c2_i32_255
  let v447 : BitVec 1 := Scalar.andi v12 v446
  let v448 : BitVec 32 := Scalar.extui v447
  let c0_i32_256 : BitVec 32 := 0#32
  let v449 : BitVec 1 := Scalar.cmpi .ne v448 c0_i32_256
  v449

def k0_off157 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c512_i32 : BitVec 32 := 512#32
  let v492 : BitVec 32 := Scalar.addi v491 c512_i32
  let c0_i32_286 : BitVec 32 := 0#32
  ![v492.toNat, 0]
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_257 : BitVec 32 := 1#32
  let v450 : BitVec 32 := Scalar.subi v5 c1_i32_257
  let c2_i32_258 : BitVec 32 := 2#32
  let v451 : BitVec 1 := Scalar.cmpi .sge v450 c2_i32_258
  let v452 : BitVec 1 := Scalar.andi v12 v451
  let v453 : BitVec 32 := Scalar.extui v452
  let c0_i32_259 : BitVec 32 := 0#32
  let v454 : BitVec 1 := Scalar.cmpi .ne v453 c0_i32_259
  v454

def k0_off158 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c2_i32_280 : BitVec 32 := 2#32
  let v489 : BitVec 32 := Scalar.subi v488 c2_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1024_i32_286 : BitVec 32 := 1024#32
  let v499 : BitVec 32 := Scalar.addi v498 c1024_i32_286
  let c0_i32_292 : BitVec 32 := 0#32
  ![v499.toNat, 0]
def k0_off159 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.subi v5 c1_i32_294
  let c2_i32_295 : BitVec 32 := 2#32
  let v511 : BitVec 32 := Scalar.subi v510 c2_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1024_i32_298 : BitVec 32 := 1024#32
  let v515 : BitVec 32 := Scalar.addi v514 c1024_i32_298
  let c0_i32_305 : BitVec 32 := 0#32
  ![v515.toNat, 0]
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_260 : BitVec 32 := 2#32
  let v455 : BitVec 32 := Scalar.subi c2_i32_260 v5
  let c2_i32_261 : BitVec 32 := 2#32
  let v456 : BitVec 1 := Scalar.cmpi .sge v455 c2_i32_261
  let v457 : BitVec 1 := Scalar.andi v13 v456
  let v458 : BitVec 32 := Scalar.extui v457
  let c0_i32_262 : BitVec 32 := 0#32
  let v459 : BitVec 1 := Scalar.cmpi .ne v458 c0_i32_262
  v459

def k0_off160 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c2_i32_280 : BitVec 32 := 2#32
  let v489 : BitVec 32 := Scalar.addi v488 c2_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1024_i32_286 : BitVec 32 := 1024#32
  let v499 : BitVec 32 := Scalar.addi v498 c1024_i32_286
  let c0_i32_292 : BitVec 32 := 0#32
  ![v499.toNat, 0]
def k0_off161 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.addi v5 c1_i32_294
  let c2_i32_295 : BitVec 32 := 2#32
  let v511 : BitVec 32 := Scalar.addi v510 c2_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1024_i32_298 : BitVec 32 := 1024#32
  let v515 : BitVec 32 := Scalar.addi v514 c1024_i32_298
  let c0_i32_305 : BitVec 32 := 0#32
  ![v515.toNat, 0]
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_263 : BitVec 32 := 2#32
  let v460 : BitVec 1 := Scalar.cmpi .sge v5 c2_i32_263
  let v461 : BitVec 1 := Scalar.andi v13 v460
  let v462 : BitVec 32 := Scalar.extui v461
  let c0_i32_264 : BitVec 32 := 0#32
  let v463 : BitVec 1 := Scalar.cmpi .ne v462 c0_i32_264
  v463

def k0_off162 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1024_i32 : BitVec 32 := 1024#32
  let v492 : BitVec 32 := Scalar.addi v491 c1024_i32
  let c0_i32_286 : BitVec 32 := 0#32
  ![v492.toNat, 0]
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_265 : BitVec 32 := 3#32
  let v464 : BitVec 32 := Scalar.subi c3_i32_265 v5
  let c2_i32_266 : BitVec 32 := 2#32
  let v465 : BitVec 1 := Scalar.cmpi .sge v464 c2_i32_266
  let v466 : BitVec 1 := Scalar.andi v12 v465
  let v467 : BitVec 32 := Scalar.extui v466
  let c0_i32_267 : BitVec 32 := 0#32
  let v468 : BitVec 1 := Scalar.cmpi .ne v467 c0_i32_267
  v468

def k0_off163 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1024_i32 : BitVec 32 := 1024#32
  let v492 : BitVec 32 := Scalar.addi v491 c1024_i32
  let c0_i32_286 : BitVec 32 := 0#32
  ![v492.toNat, 0]
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c1_i32_268 : BitVec 32 := 1#32
  let v469 : BitVec 32 := Scalar.subi v5 c1_i32_268
  let c2_i32_269 : BitVec 32 := 2#32
  let v470 : BitVec 1 := Scalar.cmpi .sge v469 c2_i32_269
  let v471 : BitVec 1 := Scalar.andi v12 v470
  let v472 : BitVec 32 := Scalar.extui v471
  let c0_i32_270 : BitVec 32 := 0#32
  let v473 : BitVec 1 := Scalar.cmpi .ne v472 c0_i32_270
  v473

def k0_off164 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.subi v5 c1_i32_279
  let c2_i32_280 : BitVec 32 := 2#32
  let v489 : BitVec 32 := Scalar.subi v488 c2_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1536_i32_286 : BitVec 32 := 1536#32
  let v499 : BitVec 32 := Scalar.addi v498 c1536_i32_286
  let c0_i32_292 : BitVec 32 := 0#32
  ![v499.toNat, 0]
def k0_off165 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.subi v5 c1_i32_294
  let c2_i32_295 : BitVec 32 := 2#32
  let v511 : BitVec 32 := Scalar.subi v510 c2_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1536_i32_298 : BitVec 32 := 1536#32
  let v515 : BitVec 32 := Scalar.addi v514 c1536_i32_298
  let c0_i32_305 : BitVec 32 := 0#32
  ![v515.toNat, 0]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_271 : BitVec 32 := 2#32
  let v474 : BitVec 32 := Scalar.subi c2_i32_271 v5
  let c2_i32_272 : BitVec 32 := 2#32
  let v475 : BitVec 1 := Scalar.cmpi .sge v474 c2_i32_272
  let v476 : BitVec 1 := Scalar.andi v13 v475
  let v477 : BitVec 32 := Scalar.extui v476
  let c0_i32_273 : BitVec 32 := 0#32
  let v478 : BitVec 1 := Scalar.cmpi .ne v477 c0_i32_273
  v478

def k0_off166 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_279 : BitVec 32 := 1#32
  let v488 : BitVec 32 := Scalar.addi v5 c1_i32_279
  let c2_i32_280 : BitVec 32 := 2#32
  let v489 : BitVec 32 := Scalar.addi v488 c2_i32_280
  let c4096_i32_284 : BitVec 32 := 4096#32
  let v496 : BitVec 32 := Scalar.muli v489 c4096_i32_284
  let c1_i32_283 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_283 v2
  let c2048_i32_285 : BitVec 32 := 2048#32
  let v497 : BitVec 32 := Scalar.muli v495 c2048_i32_285
  let v498 : BitVec 32 := Scalar.addi v496 v497
  let c1536_i32_286 : BitVec 32 := 1536#32
  let v499 : BitVec 32 := Scalar.addi v498 c1536_i32_286
  let c0_i32_292 : BitVec 32 := 0#32
  ![v499.toNat, 0]
def k0_off167 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_294 : BitVec 32 := 1#32
  let v510 : BitVec 32 := Scalar.addi v5 c1_i32_294
  let c2_i32_295 : BitVec 32 := 2#32
  let v511 : BitVec 32 := Scalar.addi v510 c2_i32_295
  let c4096_i32_296 : BitVec 32 := 4096#32
  let v512 : BitVec 32 := Scalar.muli v511 c4096_i32_296
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_297 : BitVec 32 := 2048#32
  let v513 : BitVec 32 := Scalar.muli v2 c2048_i32_297
  let v514 : BitVec 32 := Scalar.addi v512 v513
  let c1536_i32_298 : BitVec 32 := 1536#32
  let v515 : BitVec 32 := Scalar.addi v514 c1536_i32_298
  let c0_i32_305 : BitVec 32 := 0#32
  ![v515.toNat, 0]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let c2_i32_274 : BitVec 32 := 2#32
  let v479 : BitVec 1 := Scalar.cmpi .sge v5 c2_i32_274
  let v480 : BitVec 1 := Scalar.andi v13 v479
  let v481 : BitVec 32 := Scalar.extui v480
  let c0_i32_275 : BitVec 32 := 0#32
  let v482 : BitVec 1 := Scalar.cmpi .ne v481 c0_i32_275
  v482

def k0_off168 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.subi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1536_i32 : BitVec 32 := 1536#32
  let v492 : BitVec 32 := Scalar.addi v491 c1536_i32
  let c0_i32_286 : BitVec 32 := 0#32
  ![v492.toNat, 0]
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let c3_i32_276 : BitVec 32 := 3#32
  let v483 : BitVec 32 := Scalar.subi c3_i32_276 v5
  let c2_i32_277 : BitVec 32 := 2#32
  let v484 : BitVec 1 := Scalar.cmpi .sge v483 c2_i32_277
  let v485 : BitVec 1 := Scalar.andi v12 v484
  let v486 : BitVec 32 := Scalar.extui v485
  let c0_i32_278 : BitVec 32 := 0#32
  let v487 : BitVec 1 := Scalar.cmpi .ne v486 c0_i32_278
  v487

def k0_off169 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_279 : BitVec 32 := 2#32
  let v488 : BitVec 32 := Scalar.addi v5 c2_i32_279
  let c4096_i32_280 : BitVec 32 := 4096#32
  let v489 : BitVec 32 := Scalar.muli v488 c4096_i32_280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v490 : BitVec 32 := Scalar.muli v2 c2048_i32
  let v491 : BitVec 32 := Scalar.addi v489 v490
  let c1536_i32 : BitVec 32 := 1536#32
  let v492 : BitVec 32 := Scalar.addi v491 c1536_i32
  let c0_i32_286 : BitVec 32 := 0#32
  ![v492.toNat, 0]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The arithmetic of the gather's schedule, apart from any program.

Thirty-two devices stand on a 2 × 4 × 4 mesh (x, y, z). Every device sends twelve pieces of 512 rows on each of four
STREAMS, named by two flags `h` and `b`:

* `h = false`: from a device to its neighbour along y — to the one above (`b = true`) or the one below (`b = false`);
* `h = true`: from a device to its partner across x, passing on what stream `(false, b)` has brought.

Piece `t = 4 s + j` of a y-stream is quarter `j` of a half chunk that has already travelled `s` steps. This module
says who sends what to whom (`tgt`, `act`, `blk`), and proves the facts about these that the proof uses, each decided over the thirty-two devices and twelve pieces.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

namespace Cert.Gather

open Cert.KernelIdeal
open Idealize.ShloMosaic Idealize.ShloMosaic.TcCoe

/-- A device's coordinate along x. -/
def cx (c : Dev nD) : ℕ := c.val / 16
/-- A device's coordinate along y. -/
def cy (c : Dev nD) : ℕ := c.val / 4 % 4

/-- The device at `x` and `y` (taken modulo the mesh's sizes) with the z of `c`. -/
def devAt (x y : ℕ) (c : Dev nD) : Dev nD := ⟨x % 2 * 16 + y % 4 * 4 + c.val % 4, by show _ < 32; omega⟩

/-- Where stream `(h, b)` of device `c` leads: the partner across x, or the neighbour along y (taken cyclically; at the
    ends of the chain nothing is sent, see `act`). -/
def tgt (h b : Bool) (c : Dev nD) : Dev nD :=
  if h then devAt (cx c + 1) (cy c) c else if b then devAt (cx c) (cy c + 1) c else devAt (cx c) (cy c + 3) c

/-- Whether device `c` sends piece `t` on stream `(h, b)`. -/
def act (h b : Bool) (c : Dev nD) (t : ℕ) : Bool :=
  match h, b with
  | false, true => decide (cy c < 3 ∧ t / 4 ≤ cy c)
  | false, false => decide (0 < cy c ∧ t / 4 + cy c ≤ 3)
  | true, true => decide (t / 4 < cy c)
  | true, false => decide (t / 4 + cy c < 3)

/-- The block of 512 rows of the result that piece `t` of stream `(h, b)` of device `c` is. -/
def blk (h b : Bool) (c : Dev nD) (t : ℕ) : ℕ :=
  8 * (match h, b with
    | false, true => cy c - t / 4
    | false, false => cy c + t / 4
    | true, true => cy c - 1 - t / 4
    | true, false => cy c + 1 + t / 4) + 4 * cx c + t % 4

/-- Whether device `c` receives piece `t` on stream `(h, b)`. -/
abbrev got (h b : Bool) (c : Dev nD) (t : ℕ) : Bool := act h b (tgt h (!b) c) t
/-- The block that piece `t` received on stream `(h, b)` by device `c` is. -/
abbrev gblk (h b : Bool) (c : Dev nD) (t : ℕ) : ℕ := blk h b (tgt h (!b) c) t

theorem tgt_tgt (h b : Bool) (c : Dev nD) : tgt h (!b) (tgt h b c) = c := by
  revert h b c; decide +kernel

theorem tgt_tgt' (h b : Bool) (c : Dev nD) : tgt h b (tgt h (!b) c) = c := by
  revert h b c; decide +kernel

/-- A stream's step, as a permutation of the devices. -/
def tgtE (h b : Bool) : Dev nD ≃ Dev nD := ⟨tgt h b, tgt h (!b), tgt_tgt h b, tgt_tgt' h b⟩

/-- What a y-stream brings is exactly what is passed across x. -/
theorem got_y (b : Bool) (c : Dev nD) (t : ℕ) (ht : t < 12) : got false b c t = act true b c t := by
  have h : ∀ (b : Bool) (c : Dev nD), ∀ t < 12, got false b c t = act true b c t := by decide +kernel
  exact h b c t ht

theorem gblk_y (b : Bool) (c : Dev nD) (t : ℕ) (ht : t < 12) (hg : act true b c t = true) : gblk false b c t = blk true b c t := by
  have h : ∀ (b : Bool) (c : Dev nD), ∀ t < 12, act true b c t = true → gblk false b c t = blk true b c t := by decide +kernel
  exact h b c t ht hg

/-- Partners send across x at the same times. -/
theorem got_x (b : Bool) (c : Dev nD) (t : ℕ) (ht : t < 12) : got true b c t = act true b c t := by
  have h : ∀ (b : Bool) (c : Dev nD), ∀ t < 12, got true b c t = act true b c t := by decide +kernel
  exact h b c t ht

/-- A piece sent on after its first step along y was received four pieces earlier. -/
theorem relay (b : Bool) (c : Dev nD) (t : ℕ) (ht : t < 12) (h4 : 4 ≤ t) (ha : act false b c t = true) :
    act true b c (t - 4) = true ∧ blk false b c t = blk true b c (t - 4) := by
  have h : ∀ (b : Bool) (c : Dev nD), ∀ t < 12, 4 ≤ t → act false b c t = true →
      act true b c (t - 4) = true ∧ blk false b c t = blk true b c (t - 4) := by decide +kernel
  exact h b c t ht h4 ha

/-- The first four pieces of a y-stream are a device's own. -/
theorem blk_own (b : Bool) (c : Dev nD) (t : ℕ) (ht : t < 4) : blk false b c t = 8 * cy c + (4 * cx c + t) := by
  have h : ∀ (b : Bool) (c : Dev nD), ∀ t < 4, blk false b c t = 8 * cy c + (4 * cx c + t) := by decide +kernel
  exact h b c t ht

theorem cx_lt (c : Dev nD) : cx c < 2 := by revert c; decide +kernel
theorem cy_lt (c : Dev nD) : cy c < 4 := by revert c; decide +kernel

theorem devAt_self (c : Dev nD) : devAt (cx c) (cy c) c = c := by revert c; decide +kernel

/-- The device a block of the result starts from: `c`'s line (same z), chunk `r / 8`, half `r / 4 % 2`. -/
def home (c : Dev nD) (r : ℕ) : Dev nD := devAt (r / 4 % 2) (r / 8) c

/-- Every device of a line sees the same homes. -/
theorem home_tgt (h b : Bool) (c : Dev nD) (r : ℕ) : home (tgt h b c) r = home c r := by
  have e : ∀ (h b : Bool) (c : Dev nD), (tgt h b c).val % 4 = c.val % 4 := by decide +kernel
  unfold home devAt; exact Fin.ext (by simp only [e])

/-- A device's own first pieces are at home with it. -/
theorem home_own (c : Dev nD) (t : ℕ) (ht : t < 4) : home c (8 * cy c + (4 * cx c + t)) = c := by
  have h : ∀ (c : Dev nD), ∀ t < 4, home c (8 * cy c + (4 * cx c + t)) = c := by decide +kernel
  exact h c t ht

/-- The twelve pieces' numbers. -/
abbrev Piece : Type := Bool × Bool × Fin 12

/-- The blocks device `c` receives. -/
def rset (c : Dev nD) : Finset Piece := Finset.univ.filter fun p => got p.1 p.2.1 c p.2.2.val = true

/-- Distinct received pieces are distinct blocks. -/
theorem gblk_inj (c : Dev nD) : Set.InjOn (fun p : Piece => gblk p.1 p.2.1 c p.2.2.val) (rset c) := by
  have h : ∀ c : Dev nD, ∀ p : Piece, got p.1 p.2.1 c p.2.2.val = true → ∀ q : Piece, got q.1 q.2.1 c q.2.2.val = true →
      gblk p.1 p.2.1 c p.2.2.val = gblk q.1 q.2.1 c q.2.2.val → p = q := by decide +kernel
  intro p hp q hq e
  exact h c p (Finset.mem_filter.mp hp).2 q (Finset.mem_filter.mp hq).2 e

/-- The received blocks are exactly the blocks outside a device's own chunk. -/
theorem gblk_image (c : Dev nD) :
    (rset c).image (fun p : Piece => gblk p.1 p.2.1 c p.2.2.val) = (Finset.range 32).filter fun r => r / 8 ≠ cy c := by
  revert c; decide +kernel

end Cert.Gather
-- ==== Proof.Protocol.lean ====
/-
The protocol of the gather: what each semaphore counts, and what each landing hands over.

* barrier of a device: one unit from its partner across x and one from each neighbour along y that exists. Each unit
  hands over the parts of the sender's result buffer that this device is going to write.
* send semaphore of piece `t` of stream `(h, b)`: raised by the device's own copy once it has read its source; hands
  the source back.
* receive semaphore of piece `t` of stream `(h, b)`: raised by the copy that lands; hands over the block with its rows.
* the local copy's semaphore: hands back the argument and the device's own chunk of the result.

Every cell is used for one round.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own, and the rounds of the cells with duties named by `Fin 3`. -/
abbrev UU : Type := UR sig nD τ × URounds (GSem nD τ sig) (Fin 3)

local notation "𝕄" => MT nD τ sig Unit (Elt F) ℕ UU ℕ

abbrev ER : Emb (URounds (GSem nD τ sig) (Fin 3)) (MT nD τ sig Unit (Elt F) ℕ UU ℕ) := embR

/-! ## Cells -/

/-- A device's semaphores: the barrier, the local copy's, and one for each stream, direction of use (`true`: receive)
    and piece. -/
abbrev Key : Type := Unit ⊕ Unit ⊕ (Bool × Bool × Bool × Fin 12)

abbrev kbar : Key := .inl ()
abbrev kcp : Key := .inr (.inl ())
/-- The key of piece `t` of stream `(h, b)`, its receive side where `r` holds. -/
abbrev kp (h b r : Bool) (t : Fin 12) : Key := .inr (.inr (h, b, r, t))

/-- The number of a piece's semaphore. -/
def slot (h b r : Bool) (t : Fin 12) : DmaSem sig :=
  ⟨1 + 48 * h.toNat + 24 * (!b).toNat + 12 * r.toNat + t.val, by
    show _ < 97
    have := t.isLt; cases h <;> cases b <;> cases r <;> simp <;> omega⟩

/-- A key's semaphore. -/
def csem : Key → SemLoc sig
  | .inl _ => .reg 0
  | .inr (.inl _) => .dma (0 : Fin 97)
  | .inr (.inr (h, b, r, t)) => .dma (slot h b r t)

/-- A semaphore's key. -/
def key : SemLoc sig → Key
  | .reg _ => kbar
  | .dma q => if q.val = 0 then kcp else
      kp (decide (q.val / 49 = 1)) (decide ((q.val - 1) / 24 % 2 = 0)) (decide ((q.val - 1) / 12 % 2 = 1)) ⟨(q.val - 1) % 12, Nat.mod_lt _ (by decide)⟩

theorem key_csem (k : Key) : key (csem k) = k := by revert k; decide +kernel

/-- Device `c`'s cell of a key. -/
abbrev cell (c : Dev nD) (k : Key) : GSem nD τ sig := ((c : Thread nD τ), csem k)

/-- The numbers of pieces as elements of `Fin 12`. -/
abbrev pc (t : ℕ) : Fin 12 := Fin.ofNat 12 t

theorem pc_val {t : ℕ} (ht : t < 12) : (pc t).val = t := Nat.mod_eq_of_lt ht

theorem cell_inj {c c' : Dev nD} {k k' : Key} (h : cell c k = cell c' k') : c = c' ∧ k = k' := by
  refine ⟨congrArg (fun g : GSem nD τ sig => g.1.1) h, ?_⟩
  rw [← key_csem k, ← key_csem k']
  exact congrArg (fun g : GSem nD τ sig => key g.2) h

/-! ## Memory -/

/-- The argument's row and column that row `i 0` and column `i 1` of the result are: rows within a chunk. -/
def srcIx (i : S16384x1024.Idx) : S4096x1024.Idx := fun
  | 0 => ⟨(i 0).val % 4096, Nat.mod_lt _ (by decide)⟩
  | 1 => ⟨(i 1).val, (i 1).isLt⟩

/-- The indices of the result in block `r` of 512 rows. -/
def rows (r : ℕ) : Finset S16384x1024.Idx := Finset.univ.filter fun i => (i 0).val / 512 = r
/-- The indices of the argument in block `r` of 512 rows. -/
def xrows (r : ℕ) : Finset S4096x1024.Idx := Finset.univ.filter fun i => (i 0).val / 512 = r
/-- The indices of the result in chunk `q` of 4096 rows. -/
def chunk (q : ℕ) : Finset S16384x1024.Idx := Finset.univ.filter fun i => (i 0).val / 4096 = q

/-- The result's buffer and the argument's, on device `c`. -/
abbrev oloc (c : Dev nD) : Loc nD τ sig := (c : Thread nD τ).loc main_v1
abbrev xloc (c : Dev nD) : Loc nD τ sig := (c : Thread nD τ).loc main_arg0

/-- Share `q` of block `r` of the result on device `c`, at contents `f`. -/
def opts (c : Dev nD) (r : ℕ) (q : PosShare TreeShare) (f : Buf (Elt F) (oloc c)) : sProp 𝕄 := oloc c ↦[rows r]{q} f
/-- Share `q` of block `r` of the argument on device `c`, at contents `f`. -/
def xpts (c : Dev nD) (r : ℕ) (q : PosShare TreeShare) (f : Buf (Elt F) (xloc c)) : sProp 𝕄 := xloc c ↦[xrows r]{q} f

variable (m : (ℓ : Loc nD τ sig) → Buf (Elt F) ℓ)

/-- The rows that travel along `c`'s line: every block as its home device's argument has it. -/
def travels (c : Dev nD) : Buf (Elt F) (oloc c) := fun i =>
  m (xloc (home c ((i 0).val / 512))) (srcIx i)

/-- The result on device `c`: its own chunk from its own argument, every other block from the block's home. -/
def result (c : Dev nD) : Buf (Elt F) (oloc c) := fun i =>
  if (i 0).val / 4096 = cy c then m (xloc c) (srcIx i) else travels m c i

/-- The share of the argument that direction `b` of the y-streams sends from. -/
def qs (b : Bool) : PosShare TreeShare := if b then fullShare.right.left else fullShare.right.right

/-- What device `c` sends piece `t` of stream `(h, b)` from, if it sends it: its own rows of the argument for the
    first four pieces of a y-stream, then the block that arrived four pieces earlier, half a share of it; the other half goes
    across x. -/
def src (h b : Bool) (c : Dev nD) (t : ℕ) : sProp 𝕄 :=
  if h then (if act true b c t then opts c (blk true b c t) fullShare.right (travels m c) else iprop(emp))
  else if t < 4 then xpts c (4 * cx c + t) (qs b) (m (xloc c))
  else if act true b c (t - 4) then opts c (blk true b c (t - 4)) fullShare.left (travels m c) else iprop(emp)

/-- The block that device `c` is to write on stream `(h, b)`'s target with piece `t`, at any contents. -/
def room (h b : Bool) (c : Dev nD) (t : ℕ) : sProp 𝕄 :=
  if act h b c t then iprop(∃ f, opts (F := F) (tgt h b c) (blk h b c t) fullShare f) else iprop(emp)

/-- All that device `c` is to write with stream `(h, b)`. -/
def rooms (h b : Bool) (c : Dev nD) : sProp 𝕄 := bigSep (Finset.range 12) (room (F := F) h b c)

/-- The block that piece `t` of stream `(h, b)` has brought device `c`. -/
def brought (h b : Bool) (c : Dev nD) (t : ℕ) : sProp 𝕄 := opts c (gblk h b c t) fullShare (travels m c)

/-- What the local copy hands back: the device's own chunk, filled, and the half share of the argument it read. -/
def copied (c : Dev nD) : sProp 𝕄 :=
  iprop((oloc c ↦[chunk (cy c)]{fullShare} result m c) ∗ (xloc c ↦[Finset.univ]{fullShare.left} m (xloc c)))

/-! ## The schedule -/

/-- The credit of a piece's copy. -/
def NP : ℕ := ((Memref.whole main_v1).slice (Rect.unit (s := S16384x1024) ![0, 0] S512x1024.size (by decide)) (fun _ => rfl) : Memref sig .tc .hbm S512x1024 .f32).view.dmaCredit
/-- The credit of the local copy. -/
def NC : ℕ := ((Memref.whole main_v1).slice (Rect.unit (s := S16384x1024) ![0, 0] S4096x1024.size (by decide)) (fun _ => rfl) : Memref sig .tc .hbm S4096x1024 .f32).view.dmaCredit

theorem NP_pos : 0 < NP := View.dmaCredit_pos _ (by decide)
theorem NC_pos : 0 < NC := View.dmaCredit_pos _ (by decide)

/-- Every piece of the result has the credit of a piece, wherever it lies. -/
theorem credit_piece (off : Fin 2 → ℕ) (inb) :
    ((Memref.whole main_v1).slice (Rect.unit (s := S16384x1024) off S512x1024.size inb) (fun _ => rfl) : Memref sig .tc .hbm S512x1024 .f32).view.dmaCredit = NP := rfl
/-- So has every piece of the argument. -/
theorem credit_xpiece (off : Fin 2 → ℕ) (inb) :
    ((Memref.whole main_arg0).slice (Rect.unit (s := S4096x1024) off S512x1024.size inb) (fun _ => rfl) : Memref sig .tc .hbm S512x1024 .f32).view.dmaCredit = NP := rfl
theorem credit_chunk (off : Fin 2 → ℕ) (inb) :
    ((Memref.whole main_v1).slice (Rect.unit (s := S16384x1024) off S4096x1024.size inb) (fun _ => rfl) : Memref sig .tc .hbm S4096x1024 .f32).view.dmaCredit = NC := rfl
theorem credit_arg : (Memref.whole main_arg0 : Memref sig .tc .hbm S4096x1024 .f32).view.dmaCredit = NC := rfl

attribute [irreducible] NP NC

/-- Who signals device `c`'s barrier: 0 its partner, 1 the neighbour above, 2 the one below. -/
def sig3 (c : Dev nD) : Fin 3 → Bool
  | 0 => true
  | 1 => decide (cy c < 3)
  | 2 => decide (0 < cy c)

/-- Whether a piece's cell is used at all. -/
def live (c : Dev nD) (h b r : Bool) (t : ℕ) : Bool := if r then got h b c t else act h b c t

def dut (c : Dev nD) : Key → Finset (Fin 3)
  | .inl _ => Finset.univ.filter fun d => sig3 c d = true
  | .inr (.inl _) => {0}
  | .inr (.inr (h, b, r, t)) => if live c h b r t.val then {0} else ∅

def amt : Key → ℕ
  | .inl _ => 1
  | .inr (.inl _) => NC
  | .inr (.inr _) => NP

/-- What a unit of the barrier hands device `c`: from the partner, the room for both streams across x; from a neighbour,
    the room for the stream that leads there. -/
def barPay (c : Dev nD) (d : Fin 3) : sProp 𝕄 :=
  if d = 0 then iprop(rooms (F := F) true true c ∗ rooms (F := F) true false c)
  else if d = 1 then rooms (F := F) false true c else rooms (F := F) false false c

def pay (c : Dev nD) : Key → Fin 3 → sProp 𝕄
  | .inl _, d => barPay (F := F) c d
  | .inr (.inl _), _ => copied m c
  | .inr (.inr (h, b, r, t)), _ => if r then brought m h b c t.val else src m h b c t.val

/-- The schedule: one round for every cell. -/
def Rd : Rounds.Schedule (GSem nD τ sig) (Fin 3) 𝕄 where
  duties g r := if r = 0 ∧ g.1.2 = .tc then dut g.1.1 (key g.2) else ∅
  unitless _ := False
  amount g _ _ := amt (key g.2)
  payload g _ d := pay m g.1.1 (key g.2) d
  amount_pos g _ _ _ := by
    generalize key g.2 = k
    rcases k with _ | _ | _
    exacts [Nat.one_pos, NC_pos, NP_pos]

instance opts_storable (c : Dev nD) (r : ℕ) (q) (f) : BI.Storable (upEmb : UEmb _ 𝕄) (opts (F := F) c r q f) := by unfold opts; infer_instance
instance xpts_storable (c : Dev nD) (r : ℕ) (q) (f) : BI.Storable (upEmb : UEmb _ 𝕄) (xpts (F := F) c r q f) := by unfold xpts; infer_instance
instance room_storable (h b : Bool) (c : Dev nD) (t : ℕ) : BI.Storable (upEmb : UEmb _ 𝕄) (room (F := F) h b c t) := by
  unfold room; split <;> infer_instance
instance rooms_storable (h b : Bool) (c : Dev nD) : BI.Storable (upEmb : UEmb _ 𝕄) (rooms (F := F) h b c) := by
  unfold rooms; infer_instance
instance src_storable (h b : Bool) (c : Dev nD) (t : ℕ) : BI.Storable (upEmb : UEmb _ 𝕄) (src (F := F) m h b c t) := by
  unfold src; (repeat' split) <;> infer_instance

instance Rd_storable (g : GSem nD τ sig) (r : ℕ) (d : Fin 3) : BI.Storable (upEmb : UEmb _ 𝕄) ((Rd (F := F) m).payload g r d) := by
  show BI.Storable upEmb (pay m g.1.1 (key g.2) d)
  generalize key g.2 = k
  rcases k with _ | _ | ⟨h, b, r, t⟩
  · show BI.Storable upEmb (barPay (F := F) g.1.1 d)
    unfold barPay; (repeat' split) <;> infer_instance
  · show BI.Storable upEmb (copied m g.1.1)
    unfold copied; infer_instance
  · show BI.Storable upEmb (if r then brought m h b g.1.1 t.val else src m h b g.1.1 t.val)
    unfold brought; split <;> infer_instance

theorem duties_cell (c : Dev nD) (k : Key) : (Rd (F := F) m).duties (cell c k) 0 = dut c k := by
  show (if (0 : ℕ) = 0 ∧ (cell c k).1.2 = .tc then dut c (key (csem k)) else ∅) = _
  rw [if_pos ⟨rfl, rfl⟩, key_csem]

theorem duties_later (g : GSem nD τ sig) (r : ℕ) (hr : 1 ≤ r) : (Rd (F := F) m).duties g r = ∅ :=
  if_neg fun h => by omega

theorem amount_cell (c : Dev nD) (k : Key) (r : ℕ) (d : Fin 3) : (Rd (F := F) m).amount (cell c k) r d = amt k := by
  show amt (key (csem k)) = _
  rw [key_csem]

theorem payload_cell (c : Dev nD) (k : Key) (r : ℕ) (d : Fin 3) : (Rd (F := F) m).payload (cell c k) r d = pay m c k d := by
  show pay m c (key (csem k)) d = _
  rw [key_csem]

/-- What a cell's round adds up to. -/
theorem expect_cell (c : Dev nD) (k : Key) : (Rd (F := F) m).expect (cell c k) 0 = (dut c k).card * amt k := by
  unfold Schedule.expect Schedule.amountOf
  rw [duties_cell, Finset.sum_congr rfl fun d _ => amount_cell m c k 0 d, Finset.sum_const, smul_eq_mul]

theorem dut_live (c : Dev nD) (h b r : Bool) (t : Fin 12) (hl : live c h b r t.val = true) : dut c (kp h b r t) = {0} := if_pos hl
theorem dut_dead (c : Dev nD) (h b r : Bool) (t : Fin 12) (hl : ¬ live c h b r t.val = true) : dut c (kp h b r t) = ∅ := if_neg hl

/-- The rest of a live piece's round, nothing taken: its one payload. -/
theorem rest_piece (c : Dev nD) (h b r : Bool) (t : Fin 12) (hl : live c h b r t.val = true) :
    bigSep ((Rd (F := F) m).duties (cell c (kp h b r t)) 0 \ ∅) (fun d => (Rd (F := F) m).payload (cell c (kp h b r t)) 0 d)
      = if r then brought m h b c t.val else src m h b c t.val := by
  rw [Finset.sdiff_empty, duties_cell, dut_live c h b r t hl, bigSep_singleton, payload_cell]; rfl

theorem rest_copy (c : Dev nD) :
    bigSep ((Rd (F := F) m).duties (cell c kcp) 0 \ ∅) (fun d => (Rd (F := F) m).payload (cell c kcp) 0 d) = copied m c := by
  rw [Finset.sdiff_empty, duties_cell]
  show bigSep {0} _ = _
  rw [bigSep_singleton, payload_cell]; rfl

/-- The barrier's round: all the room a device's copies need. -/
theorem rest_bar (c : Dev nD) :
    bigSep ((Rd (F := F) m).duties (cell c kbar) 0 \ ∅) (fun d => (Rd (F := F) m).payload (cell c kbar) 0 d)
      ⊢ iprop(rooms (F := F) true true c ∗ rooms (F := F) true false c ∗ rooms (F := F) false true c ∗ rooms (F := F) false false c) := by
  have hno (b : Bool) (hb : ∀ t < 12, act false b c t = false) : (iprop(emp) : sProp 𝕄) ⊢ rooms (F := F) false b c := by
    unfold rooms
    rw [bigSep_congr (Ψ := fun _ => (BI.emp : sProp 𝕄)) fun t ht => by
      unfold room; rw [hb t (Finset.mem_range.mp ht)]; rfl, bigSep_emp_const]
    exact BI.Entails.refl _
  rw [Finset.sdiff_empty, duties_cell, bigSep_congr (fun d _ => payload_cell m c kbar 0 d)]
  show bigSep (Finset.univ.filter fun d => sig3 c d = true) (fun d => barPay (F := F) c d) ⊢ _
  rw [bigSep_filter, bigSep_univ_eq_bigSepL [0, 1, 2] (by decide) (by decide), bigSepL_cons_cons, bigSepL_cons_cons, bigSepL_singleton]
  have h1 : (if sig3 c 1 = true then barPay (F := F) c 1 else BI.emp : sProp 𝕄) ⊢ rooms (F := F) false true c := by
    split
    · exact BI.Entails.refl _
    · rename_i h
      exact hno true fun t _ => by
        have h3 : ¬ cy c < 3 := fun h' => h (decide_eq_true h')
        exact decide_eq_false fun h' => h3 h'.1
  have h2 : (if sig3 c 2 = true then barPay (F := F) c 2 else BI.emp : sProp 𝕄) ⊢ rooms (F := F) false false c := by
    split
    · exact BI.Entails.refl _
    · rename_i h
      exact hno false fun t _ => by
        have h3 : ¬ 0 < cy c := fun h' => h (decide_eq_true h')
        exact decide_eq_false fun h' => h3 h'.1
  show iprop((rooms (F := F) true true c ∗ rooms (F := F) true false c) ∗ (if sig3 c 1 = true then barPay (F := F) c 1 else BI.emp)
    ∗ (if sig3 c 2 = true then barPay (F := F) c 2 else BI.emp)) ⊢ _
  iintro ⟨⟨Ha, Hb⟩, Hc, Hd⟩
  isplitl [Ha]; · iexact Ha
  isplitl [Hb]; · iexact Hb
  isplitl [Hc]
  · iapply h1; iexact Hc
  iapply h2; iexact Hd

end Cert.Gather
-- ==== Proof.Memory.lean ====
/-
The copies as transfers of blocks: a piece's slice of a buffer is a block of 512 rows, and what a copy writes there are
the rows its home device's argument holds. Every copy of the gather is one of three: from the argument to a block of
a neighbour's result, from a block of the result to the same block of another device's, and the local copy of the whole
argument.
-/
module

public import proofs.«01_k».proof.Proof.Protocol

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A slice of 512 rows of the result, of the argument, and a slice of 4096 rows of the result. -/
abbrev omem (off : Fin 2 → ℕ) (inb : ∀ a, off a + S512x1024.size a ≤ S16384x1024.size a) : Memref sig .tc .hbm S512x1024 .f32 :=
  (Memref.whole main_v1).slice (Rect.unit (s := S16384x1024) off S512x1024.size inb) (fun _ => rfl)
abbrev xmem (off : Fin 2 → ℕ) (inb : ∀ a, off a + S512x1024.size a ≤ S4096x1024.size a) : Memref sig .tc .hbm S512x1024 .f32 :=
  (Memref.whole main_arg0).slice (Rect.unit (s := S4096x1024) off S512x1024.size inb) (fun _ => rfl)
abbrev cmem (off : Fin 2 → ℕ) (inb : ∀ a, off a + S4096x1024.size a ≤ S16384x1024.size a) : Memref sig .tc .hbm S4096x1024 .f32 :=
  (Memref.whole main_v1).slice (Rect.unit (s := S16384x1024) off S4096x1024.size inb) (fun _ => rfl)

theorem omem_set (r : ℕ) (off : Fin 2 → ℕ) (inb) (h : off = ![512 * r, 0]) : (omem off inb).view.set = rows r := by
  subst h
  refine (View.set_slice_whole main_v1 _).trans (Finset.ext fun i => ?_)
  rw [Rect.mem_set_unit]
  unfold rows
  rw [Finset.mem_filter]
  refine Iff.trans Fin.forall_fin_two ?_
  have h1 : (i 1).val < 1024 := (i 1).isLt
  show (512 * r ≤ (i 0).val ∧ (i 0).val < 512 * r + 512) ∧ (0 ≤ (i 1).val ∧ (i 1).val < 0 + 1024) ↔ _ ∧ (i 0).val / 512 = r
  constructor
  · intro h; exact ⟨Finset.mem_univ _, by omega⟩
  · intro h; have := h.2; omega

theorem xmem_set (r : ℕ) (off : Fin 2 → ℕ) (inb) (h : off = ![512 * r, 0]) : (xmem off inb).view.set = xrows r := by
  subst h
  refine (View.set_slice_whole main_arg0 _).trans (Finset.ext fun i => ?_)
  rw [Rect.mem_set_unit]
  unfold xrows
  rw [Finset.mem_filter]
  refine Iff.trans Fin.forall_fin_two ?_
  have h1 : (i 1).val < 1024 := (i 1).isLt
  show (512 * r ≤ (i 0).val ∧ (i 0).val < 512 * r + 512) ∧ (0 ≤ (i 1).val ∧ (i 1).val < 0 + 1024) ↔ _ ∧ (i 0).val / 512 = r
  constructor
  · intro h; exact ⟨Finset.mem_univ _, by omega⟩
  · intro h; have := h.2; omega

theorem cmem_set (q : ℕ) (off : Fin 2 → ℕ) (inb) (h : off = ![4096 * q, 0]) : (cmem off inb).view.set = chunk q := by
  subst h
  refine (View.set_slice_whole main_v1 _).trans (Finset.ext fun i => ?_)
  rw [Rect.mem_set_unit]
  unfold chunk
  rw [Finset.mem_filter]
  refine Iff.trans Fin.forall_fin_two ?_
  have h1 : (i 1).val < 1024 := (i 1).isLt
  show (4096 * q ≤ (i 0).val ∧ (i 0).val < 4096 * q + 4096) ∧ (0 ≤ (i 1).val ∧ (i 1).val < 0 + 1024) ↔ _ ∧ (i 0).val / 4096 = q
  constructor
  · intro h; exact ⟨Finset.mem_univ _, by omega⟩
  · intro h; have := h.2; omega

variable (m : (ℓ : Loc nD τ sig) → Buf (Elt F) ℓ)

/-- The rows that travel are the same along a stream. -/
theorem travels_tgt (h b : Bool) (c : Dev nD) (i : S16384x1024.Idx) : travels m (tgt h b c) i = travels m c i := by
  unfold travels; rw [home_tgt]

/-- A block of the result copied to the same block of the target device's result. -/
theorem land_block (h b : Bool) (c : Dev nD) (r : ℕ) (offd offs : Fin 2 → ℕ) (inbd inbs) (hd : offd = ![512 * r, 0]) (hs : offs = ![512 * r, 0])
    (fd : Buf (Elt F) (oloc (tgt h b c))) :
    (oloc (tgt h b c) ↦[(omem offd inbd).view.set]{fullShare}
        ((omem offd inbd).view.write (Elt F) fd ((omem offs inbs).view.read (Elt F) (travels m c)) Finset.univ) : sProp 𝕄)
      ⊢ opts (tgt h b c) r fullShare (travels m (tgt h b c)) := by
  unfold opts
  rw [omem_set r offd inbd hd]
  refine Entails.of_eq (pointsTo_congr fun i hi => ?_)
  rw [← omem_set r offd inbd hd] at hi
  obtain ⟨x, -, rfl⟩ := Finset.mem_map.mp hi
  subst hs hd
  rw [View.write_emb_of_mem _ _ (Finset.mem_univ x), travels_tgt]
  rfl

/-- A block of the argument copied to its block of a neighbour's result. -/
theorem land_own (h b : Bool) (c : Dev nD) (r t : ℕ) (ht : t < 4) (hr : r = 8 * cy c + (4 * cx c + t)) (offd offs : Fin 2 → ℕ) (inbd inbs)
    (hd : offd = ![512 * r, 0]) (hs : offs = ![512 * (4 * cx c + t), 0]) (fd : Buf (Elt F) (oloc (tgt h b c))) :
    (oloc (tgt h b c) ↦[(omem offd inbd).view.set]{fullShare}
        ((omem offd inbd).view.write (Elt F) fd ((xmem offs inbs).view.read (Elt F) (m (xloc c))) Finset.univ) : sProp 𝕄)
      ⊢ opts (tgt h b c) r fullShare (travels m (tgt h b c)) := by
  unfold opts
  rw [omem_set r offd inbd hd]
  refine Entails.of_eq (pointsTo_congr fun i hi => ?_)
  have hi' := (Finset.mem_filter.mp hi).2
  rw [← omem_set r offd inbd hd] at hi
  obtain ⟨x, -, rfl⟩ := Finset.mem_map.mp hi
  subst hs hd
  rw [View.write_emb_of_mem _ _ (Finset.mem_univ x), travels_tgt]
  have hx : cx c < 2 := cx_lt c
  have e : home c r = c := by rw [hr]; exact home_own c t ht
  have e2 : travels m c ((omem ![512 * r, 0] inbd).view.emb x) = m (xloc c) (srcIx ((omem ![512 * r, 0] inbd).view.emb x)) := by
    unfold travels; rw [hi', e]
  refine Eq.trans ?_ e2.symm
  show m (xloc c) ((xmem ![512 * (4 * cx c + t), 0] inbs).view.emb x) = _
  have x0 : (x 0).val < 512 := (x 0).isLt
  refine congrArg (m (xloc c)) (funext fun a => Fin.ext ?_)
  match a with
  | 0 =>
    show 512 * (4 * cx c + t) + 1 * (x 0).val = (512 * r + 1 * (x 0).val) % 4096
    omega
  | 1 => rfl

/-- The local copy: the whole argument into the device's own chunk. -/
theorem land_copy (c : Dev nD) (off : Fin 2 → ℕ) (inb) (h : off = ![4096 * cy c, 0]) (fd : Buf (Elt F) (oloc c)) :
    iprop((oloc c ↦[(cmem off inb).view.set]{fullShare}
        ((cmem off inb).view.write (Elt F) fd ((Memref.whole main_arg0 : Memref sig .tc .hbm S4096x1024 .f32).view.read (Elt F) (m (xloc c))) Finset.univ))
      ∗ (xloc c ↦[(Memref.whole main_arg0 : Memref sig .tc .hbm S4096x1024 .f32).view.set]{fullShare.left} m (xloc c)))
      ⊢ (copied m c : sProp 𝕄) := by
  unfold copied
  rw [cmem_set (cy c) off inb h]
  refine Entails.of_eq ?_
  rw [show (Memref.whole main_arg0 : Memref sig .tc .hbm S4096x1024 .f32).view.set = Finset.univ from View.set_whole _]
  refine congrArg (fun P : sProp 𝕄 => iprop(P ∗ _)) (pointsTo_congr fun i hi => ?_)
  have hi' := (Finset.mem_filter.mp hi).2
  rw [← cmem_set (cy c) off inb h] at hi
  obtain ⟨x, -, rfl⟩ := Finset.mem_map.mp hi
  subst h
  rw [View.write_emb_of_mem _ _ (Finset.mem_univ x)]
  have e2 : result m c ((cmem ![4096 * cy c, 0] inb).view.emb x) = m (xloc c) (srcIx ((cmem ![4096 * cy c, 0] inb).view.emb x)) := if_pos hi'
  refine Eq.trans ?_ e2.symm
  show m (xloc c) x = _
  have x0 : (x 0).val < 4096 := (x 0).isLt
  refine congrArg (m (xloc c)) (funext fun a => Fin.ext ?_)
  match a with
  | 0 =>
    show (x 0).val = (4096 * cy c + 1 * (x 0).val) % 4096
    omega
  | 1 => show (x 1).val = 0 + 1 * (x 1).val; omega

end Cert.Gather
-- ==== Proof.State.lean ====
/-
What a device holds and owes between two steps of its program, and the single copies and waits.

A device's program has two phases. In the first it starts its copies along y and, as pieces arrive from its neighbours,
passes them across x; `Dir b n r` is what it holds for direction `b` once it has started `n` pieces along y and received
`r`. In the second it waits for all that is under way; `Fin' b x y` is what it holds for direction `b` once it has
waited for `x` pieces across x and `y` along y.
-/
module

public import proofs.«01_k».proof.Proof.Memory

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Debts and levels -/

/-- What sending piece `t` of stream `(h, b)` owes the target's receive cell. -/
def ob (h b : Bool) (c : Dev nD) (t : ℕ) : CellTallies nD τ sig Unit :=
  if act h b c t = true then tallyAt (cell (tgt h b c) (kp h b true (pc t))) () NP else 0

/-- What the pieces from `n` on owe. -/
def obs (h b : Bool) (c : Dev nD) (n : ℕ) : CellTallies nD τ sig Unit := ∑ t ∈ Finset.Ico n 12, ob h b c t

/-- What direction `b` still owes after `n` pieces sent along y and `r` across x. -/
def debt (b : Bool) (c : Dev nD) (n r : ℕ) : CellTallies nD τ sig Unit := obs false b c n + obs true b c r

/-- One name per cell of a TensorCore; no other cell has any. -/
def L (g : GSem nD τ sig) : Finset Unit := if g.1.2 = .tc then {()} else ∅

/-- The levels: the barrier first, then the receipts along y in order, the receipts across x last; nothing is owed to
    any other cell. -/
def lvk : Key → ℕ
  | .inr (.inr (false, _, true, t)) => 1 + t.val
  | .inr (.inr (true, _, true, _)) => 100
  | _ => 0
def lv (g : GSem nD τ sig) (_ : Unit) : ℕ := lvk (key g.2)

theorem L_of_ne (g : GSem nD τ sig) (h : g.1.2 ≠ .tc) : L g = ∅ := if_neg h
theorem L_cell (c : Dev nD) (k : Key) : L (cell c k) = {()} := if_pos rfl
theorem lv_cell (c : Dev nD) (k : Key) (u : Unit) : lv (cell c k) u = lvk k := by unfold lv; rw [key_csem]

/-- A debt all of which lies above a level. -/
def Above (l : ℕ) (O : CellTallies nD τ sig Unit) : Prop := ∀ (g : GSem nD τ sig) (u : Unit), 0 < O g u → u ∈ L g ∧ l < lv g u

theorem Above.add {l : ℕ} {O O' : CellTallies nD τ sig Unit} (h : Above l O) (h' : Above l O') : Above l (O + O') := fun g u hg => by
  rw [Pi.add_apply, Finsupp.add_apply] at hg
  rcases Nat.eq_zero_or_pos (O g u) with e | e
  · exact h' g u (by omega)
  · exact h g u e

theorem Above.zero (l : ℕ) : Above l 0 := fun g u hg => absurd hg (Nat.lt_irrefl 0)

theorem Above.sum {l : ℕ} {I : Type} (s : Finset I) (f : I → CellTallies nD τ sig Unit) (h : ∀ i ∈ s, Above l (f i)) :
    Above l (∑ i ∈ s, f i) := by
  classical
  induction s using Finset.induction_on with
  | empty => rw [Finset.sum_empty]; exact Above.zero l
  | insert i s hi ih =>
    rw [Finset.sum_insert hi]
    exact (h i (Finset.mem_insert_self _ _)).add (ih fun j hj => h j (Finset.mem_insert_of_mem hj))

theorem Above.tally {l : ℕ} (c : Dev nD) (k : Key) (n : ℕ) (h : l < lvk k) : Above l (tallyAt (cell c k) () n) := fun g u hg => by
  rw [tallyAt_apply] at hg
  by_cases e : g = cell c k ∧ u = ()
  · rw [e.1, L_cell, lv_cell]; exact ⟨Finset.mem_singleton_self _, h⟩
  · rw [if_neg e] at hg; exact absurd hg (Nat.lt_irrefl 0)

/-- What is still to be sent along y from piece `n` on, and across x, lies above every receipt along y before `n`. -/
theorem debt_above (b : Bool) (c : Dev nD) (n r l : ℕ) (hl : l < 1 + n) (hl' : l < 100) : Above l (debt b c n r) := by
  unfold debt obs
  refine Above.add (Above.sum _ _ fun t ht => ?_) (Above.sum _ _ fun t ht => ?_)
  · rw [Finset.mem_Ico] at ht
    unfold ob
    split
    · exact Above.tally _ _ _ (by show l < 1 + (pc t).val; rw [pc_val ht.2]; omega)
    · exact Above.zero l
  · unfold ob
    split
    · exact Above.tally _ _ _ hl'
    · exact Above.zero l

/-- A device may wait on a cell when all it owes lies above that cell's level. -/
theorem mayWait (c : Dev nD) (k : Key) (O : CellTallies nD τ sig Unit) (h : Above (lvk k) O) :
    (levAts L lv : sProp 𝕄) ⊢ MayWait (c : Thread nD τ) (csem k) () O :=
  MayOwe.of_cut (L := L) (lev := lv) (lvk k) (fun p hp => by rw [Finset.mem_singleton.mp hp]; exact (L_cell c k).symm ▸ Finset.mem_singleton_self _)
    (fun g u hg => (h g u hg).1)
    (fun p hp => by rw [Finset.mem_singleton.mp hp]; exact (lv_cell c k ()).le)
    (fun g u hg => (h g u hg).2)

theorem obs_step (h b : Bool) (c : Dev nD) (n : ℕ) (hn : n < 12) : obs h b c n = obs h b c (n + 1) + ob h b c n := by
  unfold obs
  rw [show Finset.Ico n 12 = insert n (Finset.Ico (n + 1) 12) by ext x; simp only [Finset.mem_Ico, Finset.mem_insert]; omega,
    Finset.sum_insert (by rw [Finset.mem_Ico]; omega), add_comm]

theorem obs_end (h b : Bool) (c : Dev nD) : obs h b c 12 = 0 := by unfold obs; rw [Finset.Ico_self, Finset.sum_empty]

theorem debt_send (b : Bool) (c : Dev nD) (n r : ℕ) (hn : n < 12) : debt b c n r = debt b c (n + 1) r + ob false b c n := by
  unfold debt; rw [obs_step false b c n hn, add_right_comm]

theorem debt_recv (b : Bool) (c : Dev nD) (n r : ℕ) (hr : r < 12) : debt b c n r = debt b c n (r + 1) + ob true b c r := by
  unfold debt; rw [obs_step true b c r hr, add_assoc]

/-! ## What a device holds -/

variable (m : (ℓ : Loc nD τ sig) → Buf (Elt F) ℓ) (K : Dev nD × Key → ℕ)

/-- Every cell's invariant, and that its round is open. -/
def recs : sProp 𝕄 := bigSep Finset.univ fun ck : Dev nD × Key =>
  iprop(cellInv ER (Rd m) (K ck) (cell ck.1 ck.2) ∗ reached ER (cell ck.1 ck.2) 0)

instance recs_persistent : BI.Persistent (recs (F := F) m K) := by unfold recs; infer_instance

theorem recs_at (ck : Dev nD × Key) :
    recs (F := F) m K ⊢ iprop(cellInv ER (Rd m) (K ck) (cell ck.1 ck.2) ∗ reached ER (cell ck.1 ck.2) 0) := by
  unfold recs
  classical exact bigSep_elim (Finset.mem_univ ck)

/-- The facts that last: the cells' invariants and the levels. -/
def per : sProp 𝕄 := iprop(recs (F := F) m K ∗ levAts L lv)

instance per_persistent : BI.Persistent (per (F := F) m K) := by unfold per; infer_instance

/-- What a device owes, whatever it has waited for. -/
def owing (c : Dev nD) (O : CellTallies nD τ sig Unit) : sProp 𝕄 := iprop(∃ W, owes (c : Thread nD τ) O W)

/-- Piece `t` of stream `(h, b)`, not yet sent: the two duties its copy will do, and the room it will fill. -/
def unsent (h b : Bool) (c : Dev nD) (t : ℕ) : sProp 𝕄 :=
  iprop(atPos ER (cell c (kp h b false (pc t))) 0 ∅ 0 ∗ dutyTok ER (cell c (kp h b false (pc t))) 0 0
    ∗ dutyTok ER (cell (tgt h b c) (kp h b true (pc t))) 0 0 ∗ room (F := F) h b c t)

/-- Piece `t` of stream `(h, b)` sent, if it is to be: its source is in the copy's hands. -/
def sent (h b : Bool) (c : Dev nD) (t : ℕ) : sProp 𝕄 :=
  iprop(atPos ER (cell c (kp h b false (pc t))) 0 ∅ 0
    ∗ if act h b c t = true then cred (tallyAt (cell c (kp h b false (pc t))) () NP) else src m h b c t)

/-- Piece `t` of stream `(h, b)` not yet received. -/
def due (h b : Bool) (c : Dev nD) (t : ℕ) : sProp 𝕄 :=
  iprop(atPos ER (cell c (kp h b true (pc t))) 0 ∅ 0
    ∗ if got h b c t = true then cred (tallyAt (cell c (kp h b true (pc t))) () NP) else iprop(emp))

/-- The counter of a piece's semaphore back at zero. -/
def zero (h b r : Bool) (c : Dev nD) (t : ℕ) : sProp 𝕄 := semVal (cell c (kp h b r (pc t))) 0

/-- Direction `b` in the first phase, `n` pieces sent along y and `r` received. -/
def Dir (b : Bool) (c : Dev nD) (n r : ℕ) : sProp 𝕄 :=
  iprop(bigSep (Finset.Ico n 12) (unsent (F := F) false b c) ∗ bigSep (Finset.range n) (sent m false b c)
    ∗ bigSep (Finset.Ico n (r + 4)) (src m false b c)
    ∗ bigSep (Finset.Ico r 12) (fun t => iprop(due (F := F) false b c t ∗ unsent (F := F) true b c t))
    ∗ bigSep (Finset.range r) (fun t => iprop(zero (F := F) false b true c t ∗ sent m true b c t)))

/-- What came across x with piece `t`. -/
def across (b : Bool) (c : Dev nD) (t : ℕ) : sProp 𝕄 := if got true b c t = true then brought m true b c t else iprop(emp)

/-- Direction `b` in the second phase, `x` pieces across x and `y` along y waited for. -/
def Fin' (b : Bool) (c : Dev nD) (x y : ℕ) : sProp 𝕄 :=
  iprop(bigSep (Finset.Ico x 12) (fun t => iprop(due (F := F) true b c t ∗ sent m true b c t))
    ∗ bigSep (Finset.range x) (fun t => iprop(zero (F := F) true b true c t ∗ across m b c t ∗ zero (F := F) true b false c t ∗ src m true b c t))
    ∗ bigSep (Finset.Ico y 12) (sent m false b c)
    ∗ bigSep (Finset.range y) (fun t => iprop(zero (F := F) false b false c t ∗ src m false b c t)))

/-! ## One copy, one wait -/

section Ops

/-- Sending a piece: the copy takes the source and the room, and does both duties. -/
theorem send_piece (h b : Bool) (c : Dev nD) (t : ℕ) (ht : t < 12) (ha : act h b c t = true)
    {sm : Memref sig .tc .hbm S512x1024 .f32} {q : PosShare TreeShare} {fs : Buf (Elt F) (sm.view.loc (c : Thread nD τ))}
    (hsrc : src m h b c t = (sm.view.loc (c : Thread nD τ) ↦[sm.view.set]{q} fs : sProp 𝕄))
    {off : Fin 2 → ℕ} {inb} (hoff : off = ![512 * blk h b c t, 0])
    (hland : ∀ fd : Buf (Elt F) (oloc (tgt h b c)), (oloc (tgt h b c) ↦[(omem off inb).view.set]{fullShare}
        ((omem off inb).view.write (Elt F) fd (sm.view.read (Elt F) fs) Finset.univ) : sProp 𝕄)
          ⊢ opts (tgt h b c) (blk h b c t) fullShare (travels m (tgt h b c)))
    {n : Dev nD} (hn : n = tgt h b c) {q1 q2 : DmaSem sig} (h1 : q1 = slot h b false (pc t)) (h2 : q2 = slot h b true (pc t))
    {hsc : (omem off inb).view.ref.isScScratch = false} {hw1 : sm.view.WordExact} {hw2 : (omem off inb).view.WordExact}
    {hty : DmaTarget.Typed .hbm (.dma q2) (.remote (Dev.tc n : Thread nD τ) (omem off inb) (.dma q1) hsc)}
    {α : Type} {k : PUnit → Prog (TpuEff nD τ sig (Elt F) Λ₀ .tc) α} {Q : α → sProp 𝕄} (O : CellTallies nD τ sig Unit) :
    iprop(per m K ∗ unsent (F := F) h b c t ∗ src m h b c t ∗ owing (F := F) c (O + ob h b c t))
      ⊢ iprop(((sent m h b c t ∗ owing (F := F) c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sm (.remote (Dev.tc n : Thread nD τ) (omem off inb) (.dma q1) hsc) (.dma q2) hw1 hw2 hty) k) Q) := by
  subst hn h1 h2
  have hv := pc_val ht
  have l1 : live c h b false (pc t).val = true := by rw [hv]; exact ha
  have l2 : live (tgt h b c) h b true (pc t).val = true := by
    rw [hv]; show act h b (tgt h (!b) (tgt h b c)) t = true; rw [tgt_tgt]; exact ha
  unfold per owing unsent sent room ob
  rw [if_pos ha, if_pos ha, if_pos ha]
  iintro ⟨⟨#HR, #Hlev⟩, ⟨Hat, Ht1, Ht2, ⟨%fd, Hroom⟩⟩, Hsrc, ⟨%W, HO⟩⟩ Hk
  ihave #HI1 := (recs_at m K (c, kp h b false (pc t))) $$ HR
  ihave #HI2 := (recs_at m K (tgt h b c, kp h b true (pc t))) $$ HR
  icases HI1 with ⟨#Hi1, #Hr1⟩
  icases HI2 with ⟨#Hi2, #Hr2⟩
  ihave Hsrc' := (Entails.of_eq hsrc) $$ Hsrc
  ihave Hdst := (Entails.of_eq (show opts (tgt h b c) (blk h b c t) fullShare fd
      = (oloc (tgt h b c) ↦[(omem off inb).view.set]{fullShare} fd : sProp 𝕄) by unfold opts; rw [omem_set _ off inb hoff])) $$ Hroom
  iapply (Rounds.wp_send_pointsTo 𝒱₀ ER (Rd m) (c : Thread nD τ) none
      (κ₁ := K (c, kp h b false (pc t))) (κ₂ := K (tgt h b c, kp h b true (pc t)))
      (r₁ := 0) (r₂ := 0) (d₁ := 0) (d₂ := 0) (fd := fd) (src := sm) (q := q) (fs := fs) (c' := (tgt h b c : Thread nD τ)) (dst := omem off inb)
      (sS := csem (kp h b false (pc t))) (sem := csem (kp h b true (pc t)))
      (by show _ ∈ (Rd m).duties (cell c (kp h b false (pc t))) 0; rw [duties_cell, dut_live _ _ _ _ _ l1]; exact Finset.mem_singleton_self _)
      (by show _ ∈ (Rd m).duties (cell (tgt h b c) (kp h b true (pc t))) 0; rw [duties_cell, dut_live _ _ _ _ _ l2]; exact Finset.mem_singleton_self _)
      () () NP (credit_piece off inb) (amount_cell m c (kp h b false (pc t)) 0 0) (amount_cell m (tgt h b c) (kp h b true (pc t)) 0 0) O rfl (W := W)
      (by
        show _ ⊢ (Rd m).payload (cell c (kp h b false (pc t))) 0 0
        rw [payload_cell]
        show _ ⊢ src m h b c (pc t).val
        rw [hv, hsrc])
      (by
        show _ ⊢ (Rd m).payload (cell (tgt h b c) (kp h b true (pc t))) 0 0
        rw [payload_cell]
        show _ ⊢ brought m h b (tgt h b c) (pc t).val
        unfold brought gblk
        rw [hv, tgt_tgt]
        exact hland fd)) $$ [Hsrc' Hdst HO Ht1 Ht2]
  · isplitr; · iexact Hi1
    isplitr; · iexact Hi2
    isplitl [Hsrc']; · iexact Hsrc'
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hat]; · iexact Hat
    iexact Hc
  iexists W; iexact HO

/-- Waiting for a piece, sent or received: the semaphore is back at zero and the piece's payload is here. -/
theorem wait_piece (h b r : Bool) (c : Dev nD) (t : ℕ) (ht : t < 12) (hl : live c h b r t = true)
    {q : DmaSem sig} (hq : q = slot h b r (pc t)) {sm dm : Memref sig .tc .hbm S512x1024 .f32} (hcr : dm.view.dmaCredit = NP)
    {hw1 : sm.view.WordExact} {hw2 : dm.view.WordExact}
    {α : Type} {k : PUnit → Prog (TpuEff nD τ sig (Elt F) Λ₀ .tc) α} {Q : α → sProp 𝕄} (O : CellTallies nD τ sig Unit) (hO : Above (lvk (kp h b r (pc t))) O)
    {P : sProp 𝕄} (hP : (if r then brought m h b c t else src m h b c t) = P) :
    iprop(per m K ∗ atPos ER (cell c (kp h b r (pc t))) 0 ∅ 0 ∗ cred (tallyAt (cell c (kp h b r (pc t))) () NP) ∗ owing (F := F) c O)
      ⊢ iprop(((zero (F := F) h b r c t ∗ P ∗ owing (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sm dm hw1 hw2) k) Q) := by
  subst hq hP
  have hv := pc_val ht
  have l1 : live c h b r (pc t).val = true := by rw [hv]; exact hl
  unfold per owing zero
  iintro ⟨⟨#HR, #Hlev⟩, Hat, Hc, ⟨%W, HO⟩⟩ Hk
  ihave #HI := (recs_at m K (c, kp h b r (pc t))) $$ HR
  icases HI with ⟨#Hi, -⟩
  iapply (Rounds.wp_wait_rest_token 𝒱₀ ER (Rd m) (c : Thread nD τ) none (κ := K (c, kp h b r (pc t))) (sm := csem (kp h b r (pc t))) (k' := NP)
      (fun KK => (wpE_waitDma2_eq 𝒱₀ (c : Thread nD τ) none Set.univ KK).trans (by rw [hcr]; rfl)) (Set.mem_univ _) () (O := O) (W := W) (R := 0) (m := 0) (T := ∅)
      (by rw [expect_cell, dut_live c h b r (pc t) l1, Finset.card_singleton, Nat.one_mul, Nat.zero_add]; rfl)) $$ [Hat Hc HO]
  · isplitr; · iexact Hi
    isplitl [Hc]; · iexact Hc
    isplitl [HO]; · iexact HO
    isplitr; · iapply (mayWait c (kp h b r (pc t)) O hO); iexact Hlev
    iexact Hat
  iintro ⟨HO, Hat, -, Hpay⟩
  ihave Hp := (Entails.of_eq (rest_piece m c h b r (pc t) l1)) $$ Hpay
  rw [hv]
  imod (Rounds.cell_close ER (Rd m) (Set.mem_univ (K (c, kp h b r (pc t)))) (fun h => h) (R := 0 + 1) (duties_later m _)) $$ [Hat] with Hz
  · isplitr; · iexact Hi
    iexact Hat
  iapply Hk
  isplitl [Hz]; · iexact Hz
  isplitl [Hp]; · iexact Hp
  iexists _; iexact HO

/-- A piece that is not to come or go: its semaphore is never used. -/
theorem skip_piece (h b r : Bool) (c : Dev nD) (t : ℕ) (ht : t < 12) (hl : ¬ live c h b r t = true) :
    iprop(per (F := F) m K ∗ atPos ER (cell c (kp h b r (pc t))) 0 ∅ 0) ⊢ iprop(|={Set.univ}=> zero (F := F) h b r c t) := by
  unfold per zero
  iintro ⟨⟨#HR, -⟩, Hat⟩
  ihave #HI := (recs_at m K (c, kp h b r (pc t))) $$ HR
  icases HI with ⟨#Hi, -⟩
  iapply (Rounds.cell_close ER (Rd m) (Set.mem_univ (K (c, kp h b r (pc t)))) (fun h => h) (R := 0) (fun r' _ => by
    rcases Nat.eq_zero_or_pos r' with e | e
    · rw [e, duties_cell]; exact dut_dead c h b r (pc t) (by rw [pc_val ht]; exact hl)
    · exact duties_later m _ r' e))
  isplitr; · iexact Hi
  iexact Hat

end Ops

end Cert.Gather
-- ==== Proof.Steps.lean ====
/-
One conditional of the program as one step of a direction: what a device holds before it and after it.

A conditional's branch is taken exactly by the devices that send, or receive, the piece it is for; the others go on
with nothing done. Either way the direction's state moves on by one piece.
-/
module

public import proofs.«01_k».proof.Proof.State
public import Idealize.SL.BI.BigOpNat

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- The program of a core of the gather. -/
abbrev PP (α : Type) : Type _ := Prog (TpuEff nD τ sig (Elt F) Λ₀ .tc) α

/-- A core's weakest precondition. -/
abbrev WP {α : Type} (c : Dev nD) (p : PP (F := F) α) (Q : α → sProp 𝕄) : sProp 𝕄 :=
  wp frame (wpE (defs₀ (F := F)) 𝒱₀ (c : Thread nD τ) none) Set.univ p Q

/-! ## One piece of a direction -/

/-- A conditional that sends piece `n` along y moves a direction on by one piece sent. -/
theorem dir_send (b : Bool) (c : Dev nD) (n r : ℕ) (hn : n < 12) (hnr : n < r + 4) (X : CellTallies nD τ sig Unit)
    {cd : BitVec 1} (hcd : cd = 1#1 ↔ act false b c n = true) {α : Type} {p : cd = 1#1 → PP (F := F) α} {q : ¬ cd = 1#1 → PP (F := F) α}
    {k : PP (F := F) α} {Q : α → sProp 𝕄} (hq : ∀ h, q h = k)
    (hsend : ∀ h : cd = 1#1, ∀ O : CellTallies nD τ sig Unit,
      iprop(per m K ∗ unsent (F := F) false b c n ∗ src m false b c n ∗ owing (F := F) c (O + ob false b c n))
        ⊢ iprop(((sent m false b c n ∗ owing (F := F) c O) -∗ WP c k Q) -∗ WP c (p h) Q)) :
    iprop(per m K ∗ Dir m b c n r ∗ owing (F := F) c (debt b c n r + X))
      ⊢ iprop(((Dir m b c (n + 1) r ∗ owing (F := F) c (debt b c (n + 1) r + X)) -∗ WP c k Q)
          -∗ WP c (dite (cd = 1#1) p q) Q) := by
  unfold Dir
  rw [bigSep_Ico_succ_bot hn, bigSep_Ico_succ_bot hnr, bigSep_range_succ, debt_send b c n r hn, add_right_comm]
  iintro ⟨HP, ⟨⟨Hu, Hus⟩, Hs, ⟨Hsrc, Hsrcs⟩, Hd, Hz⟩, HO⟩ Hk
  by_cases h : cd = 1#1
  · rw [dif_pos h]
    iapply (hsend h (debt b c (n + 1) r + X)) $$ [HP Hu Hsrc HO]
    · isplitl [HP]; · iexact HP
      isplitl [Hu]; · iexact Hu
      isplitl [Hsrc]; · iexact Hsrc
      iexact HO
    iintro ⟨Hsn, HO⟩
    iapply Hk
    isplitr [HO]
    · isplitl [Hus]; · iexact Hus
      isplitl [Hs Hsn]
      · isplitl [Hsn]; · iexact Hsn
        iexact Hs
      isplitl [Hsrcs]; · iexact Hsrcs
      isplitl [Hd]; · iexact Hd
      iexact Hz
    iexact HO
  · rw [dif_neg h, hq h]
    have hn' : ¬ act false b c n = true := fun e => h (hcd.mpr e)
    unfold ob unsent sent
    rw [if_neg hn', add_zero, if_neg hn']
    icases Hu with ⟨Hat, -⟩
    iapply Hk
    isplitr [HO]
    · isplitl [Hus]; · iexact Hus
      isplitl [Hs Hat Hsrc]
      · isplitl [Hat Hsrc]
        · isplitl [Hat]; · iexact Hat
          iexact Hsrc
        iexact Hs
      isplitl [Hsrcs]; · iexact Hsrcs
      isplitl [Hd]; · iexact Hd
      iexact Hz
    iexact HO

/-- A block is the half that goes on along y and the half that goes across x. -/
theorem brought_split (b : Bool) (c : Dev nD) (r : ℕ) (hr : r < 12) (ha : act true b c r = true) :
    brought m false b c r ⊢ iprop(src m false b c (r + 4) ∗ src m true b c r) := by
  unfold brought src
  rw [gblk_y b c r hr ha, if_neg Bool.false_ne_true, if_neg (by omega), Nat.add_sub_cancel, if_pos ha, if_pos rfl, if_pos ha]
  unfold opts
  exact (pointsTo_share (PosShare.mem_left_op_right fullShare)).1

/-- A conditional that waits for piece `r` along y and passes it across x moves a direction on by one piece received. -/
theorem dir_recv (b : Bool) (c : Dev nD) (n r : ℕ) (hr : r < 12) (hnr : n ≤ r + 4) (X : CellTallies nD τ sig Unit)
    (hab : Above (1 + r) (debt b c n r + X))
    {cd : BitVec 1} (hcd : cd = 1#1 ↔ act true b c r = true) {α : Type} {p : cd = 1#1 → PP (F := F) α} {q : ¬ cd = 1#1 → PP (F := F) α}
    {k : PP (F := F) α} {Q : α → sProp 𝕄} (hq : ∀ h, q h = k) {p' : cd = 1#1 → PP (F := F) α}
    (hwait : ∀ h : cd = 1#1, ∀ O : CellTallies nD τ sig Unit, Above (1 + r) O →
      iprop(per m K ∗ atPos ER (cell c (kp false b true (pc r))) 0 ∅ 0 ∗ cred (tallyAt (cell c (kp false b true (pc r))) () NP) ∗ owing (F := F) c O)
        ⊢ iprop(((zero (F := F) false b true c r ∗ brought m false b c r ∗ owing (F := F) c O) -∗ WP c (p' h) Q) -∗ WP c (p h) Q))
    (hsend : ∀ h : cd = 1#1, ∀ O : CellTallies nD τ sig Unit,
      iprop(per m K ∗ unsent (F := F) true b c r ∗ src m true b c r ∗ owing (F := F) c (O + ob true b c r))
        ⊢ iprop(((sent m true b c r ∗ owing (F := F) c O) -∗ WP c k Q) -∗ WP c (p' h) Q)) :
    iprop(per m K ∗ Dir m b c n r ∗ owing (F := F) c (debt b c n r + X))
      ⊢ iprop(((Dir m b c n (r + 1) ∗ owing (F := F) c (debt b c n (r + 1) + X)) -∗ WP c k Q)
          -∗ WP c (dite (cd = 1#1) p q) Q) := by
  have hd : debt b c n r + X = (debt b c n (r + 1) + X) + ob true b c r := by rw [debt_recv b c n r hr, add_right_comm]
  rw [hd] at hab ⊢
  unfold Dir
  rw [bigSep_Ico_succ_bot hr, show r + 1 + 4 = (r + 4) + 1 from rfl, bigSep_Ico_succ_top hnr, bigSep_range_succ]
  iintro ⟨#HP, ⟨Hu, Hs, Hsrcs, ⟨⟨Hdue, Hx⟩, Hd⟩, Hz⟩, HO⟩ Hk
  by_cases h : cd = 1#1
  · have ha := hcd.mp h
    ihave Hdue := (Entails.of_eq (show due (F := F) false b c r = iprop(atPos ER (cell c (kp false b true (pc r))) 0 ∅ 0
      ∗ cred (tallyAt (cell c (kp false b true (pc r))) () NP)) by unfold due; rw [got_y b c r hr, if_pos ha])) $$ Hdue
    icases Hdue with ⟨Hat, Hc⟩
    rw [dif_pos h]
    iapply (hwait h _ hab) $$ [Hat Hc HO]
    · isplitr; · iexact HP
      isplitl [Hat]; · iexact Hat
      isplitl [Hc]; · iexact Hc
      iexact HO
    iintro ⟨Hzr, Hb, HO⟩
    ihave Hb := (brought_split m b c r hr ha) $$ Hb
    icases Hb with ⟨Hl, Hr⟩
    iapply (hsend h (debt b c n (r + 1) + X)) $$ [Hx Hr HO]
    · isplitr; · iexact HP
      isplitl [Hx]; · iexact Hx
      isplitl [Hr]; · iexact Hr
      iexact HO
    iintro ⟨Hsn, HO⟩
    iapply Hk
    isplitr [HO]
    · isplitl [Hu]; · iexact Hu
      isplitl [Hs]; · iexact Hs
      isplitl [Hsrcs Hl]
      · isplitl [Hl]; · iexact Hl
        iexact Hsrcs
      isplitl [Hd]; · iexact Hd
      isplitl [Hzr Hsn]
      · isplitl [Hzr]; · iexact Hzr
        iexact Hsn
      iexact Hz
    iexact HO
  · have hn' : ¬ act true b c r = true := fun e => h (hcd.mpr e)
    unfold due
    icases Hdue with ⟨Hat, -⟩
    rw [dif_neg h, hq h]
    have hlv : ¬ live c false b true r = true := by show ¬ got false b c r = true; rw [got_y b c r hr]; exact hn'
    imod (skip_piece m K false b true c r hr hlv) $$ [Hat] with Hzr
    · isplitr; · iexact HP
      iexact Hat
    unfold ob unsent sent
    rw [if_neg hn', add_zero, if_neg hn']
    icases Hx with ⟨Hxat, -⟩
    have e1 : src m true b c r = (iprop(emp) : sProp 𝕄) := by unfold src; rw [if_pos rfl, if_neg hn']
    have e2 : src m false b c (r + 4) = (iprop(emp) : sProp 𝕄) := by
      unfold src; rw [if_neg Bool.false_ne_true, if_neg (by omega), Nat.add_sub_cancel, if_neg hn']
    rw [e1, e2]
    iapply Hk
    isplitr [HO]
    · isplitl [Hu]; · iexact Hu
      isplitl [Hs]; · iexact Hs
      isplitl [Hsrcs]
      · isplitr; · iempintro
        iexact Hsrcs
      isplitl [Hd]; · iexact Hd
      isplitl [Hzr Hxat]
      · isplitl [Hzr]; · iexact Hzr
        isplitl [Hxat]; · iexact Hxat
        iempintro
      iexact Hz
    iexact HO

/-! ## The first phase -/

/-- A device in the first phase, direction `b` named first: `n` pieces sent and `r` received there, `n'` and `r'` in the
    other. `R` is all else it holds. -/
def St1 (R : sProp 𝕄) (b : Bool) (c : Dev nD) (n r n' r' : ℕ) : sProp 𝕄 :=
  iprop(R ∗ per m K ∗ Dir m b c n r ∗ Dir m (!b) c n' r' ∗ owing (F := F) c (debt b c n r + debt (!b) c n' r'))

/-- Moving one direction on moves the device on, and the other direction is named next. -/
theorem st1_turn (R : sProp 𝕄) (b : Bool) (c : Dev nD) (n r n' r' n₁ r₁ : ℕ) {α : Type} {p k : PP (F := F) α} {Q : α → sProp 𝕄}
    (hstep : iprop(per m K ∗ Dir m b c n r ∗ owing (F := F) c (debt b c n r + debt (!b) c n' r'))
      ⊢ iprop(((Dir m b c n₁ r₁ ∗ owing (F := F) c (debt b c n₁ r₁ + debt (!b) c n' r')) -∗ WP c k Q) -∗ WP c p Q))
    (hk : St1 m K R (!b) c n' r' n₁ r₁ ⊢ WP c k Q) : St1 m K R b c n r n' r' ⊢ WP c p Q := by
  unfold St1 at hk ⊢
  rw [Bool.not_not, add_comm] at hk
  iintro ⟨HR, #HP, HD, HD', HO⟩
  iapply hstep $$ [HD HO]
  · isplitr; · iexact HP
    isplitl [HD]; · iexact HD
    iexact HO
  iintro ⟨HD, HO⟩
  iapply hk
  isplitl [HR]; · iexact HR
  isplitr; · iexact HP
  isplitl [HD']; · iexact HD'
  isplitl [HD]; · iexact HD
  iexact HO

/-- The conditional that sends one of a device's own pieces along y. -/
theorem step_own {R : sProp 𝕄} {b : Bool} {c : Dev nD} {n r n' r' : ℕ}
    {cf : Dev nD → BitVec 1} {offs offd : Dev nD → Fin 2 → ℕ} {inbs : cf c = 1#1 → _} {inbd : cf c = 1#1 → _} {dv : Dev nD → ℕ}
    {dl : cf c = 1#1 → dv c < nD} {q1 q2 : DmaSem sig}
    {α : Type} {p : cf c = 1#1 → PP (F := F) α} {q : ¬ cf c = 1#1 → PP (F := F) α} {k : PP (F := F) α} {Q : α → sProp 𝕄}
    (hq : ∀ h, q h = k)
    (hp : ∀ h, p h = .op (.enqueueDma (xmem (offs c) (inbs h)) (.remote (Dev.tc (⟨dv c, dl h⟩ : Dev nD) : Thread nD τ) (omem (offd c) (inbd h)) (.dma q1))
      (.dma q2) (View.wordExact_bits rfl) (View.wordExact_bits rfl) ⟨⟨rfl, Or.inl rfl⟩, trivial⟩) fun _ => k)
    (hk : St1 m K R (!b) c n' r' (n + 1) r ⊢ WP c k Q)
    (hn : n < 4 := by decide)
    (hcd : ∀ c, cf c = 1#1 ↔ act false b c n = true := by decide +kernel)
    (hs : ∀ c, act false b c n = true → offs c = ![512 * (4 * cx c + n), 0] := by decide +kernel)
    (hd : ∀ c, act false b c n = true → offd c = ![512 * blk false b c n, 0] := by decide +kernel)
    (hv : ∀ c, act false b c n = true → dv c = (tgt false b c).val := by decide +kernel)
    (h1 : q1 = slot false b false (pc n) := by rfl) (h2 : q2 = slot false b true (pc n) := by rfl) :
    St1 m K R b c n r n' r' ⊢ WP c (dite (cf c = 1#1) p q) Q := by
  refine st1_turn m K R b c n r n' r' (n + 1) r (dir_send m K b c n r (by omega) (by omega) _ (hcd c) hq fun h O => ?_) hk
  rw [hp h]
  have ha := (hcd c).mp h
  refine send_piece m K false b c n (by omega) ha (n := ⟨dv c, dl h⟩) (k := fun _ => k) (sm := xmem (offs c) (inbs h)) (off := offd c) (inb := inbd h) (q := qs b) (fs := m (xloc c)) ?_ (hd c ha)
    (fun fd => land_own m false b c _ n hn (blk_own b c n hn) (offd c) (offs c) (inbd h) (inbs h) (hd c ha) (hs c ha) fd) (Fin.ext (hv c ha)) h1 h2 O
  unfold src xpts
  rw [if_neg Bool.false_ne_true, if_pos hn, xmem_set _ (offs c) (inbs h) (hs c ha)]

/-- The conditional that sends a received piece on along y. -/
theorem step_relay {R : sProp 𝕄} {b : Bool} {c : Dev nD} {n r n' r' : ℕ}
    {cf : Dev nD → BitVec 1} {offs offd : Dev nD → Fin 2 → ℕ} {inbs : cf c = 1#1 → _} {inbd : cf c = 1#1 → _} {dv : Dev nD → ℕ}
    {dl : cf c = 1#1 → dv c < nD} {q1 q2 : DmaSem sig}
    {α : Type} {p : cf c = 1#1 → PP (F := F) α} {q : ¬ cf c = 1#1 → PP (F := F) α} {k : PP (F := F) α} {Q : α → sProp 𝕄}
    (hq : ∀ h, q h = k)
    (hp : ∀ h, p h = .op (.enqueueDma (omem (offs c) (inbs h)) (.remote (Dev.tc (⟨dv c, dl h⟩ : Dev nD) : Thread nD τ) (omem (offd c) (inbd h)) (.dma q1))
      (.dma q2) (View.wordExact_bits rfl) (View.wordExact_bits rfl) ⟨⟨rfl, Or.inl rfl⟩, trivial⟩) fun _ => k)
    (hk : St1 m K R (!b) c n' r' (n + 1) r ⊢ WP c k Q)
    (hn : n < 12 ∧ 4 ≤ n ∧ n < r + 4 := by decide)
    (hcd : ∀ c, cf c = 1#1 ↔ act false b c n = true := by decide +kernel)
    (hs : ∀ c, act false b c n = true → offs c = ![512 * blk false b c n, 0] := by decide +kernel)
    (hd : ∀ c, act false b c n = true → offd c = ![512 * blk false b c n, 0] := by decide +kernel)
    (hv : ∀ c, act false b c n = true → dv c = (tgt false b c).val := by decide +kernel)
    (h1 : q1 = slot false b false (pc n) := by rfl) (h2 : q2 = slot false b true (pc n) := by rfl) :
    St1 m K R b c n r n' r' ⊢ WP c (dite (cf c = 1#1) p q) Q := by
  refine st1_turn m K R b c n r n' r' (n + 1) r (dir_send m K b c n r hn.1 hn.2.2 _ (hcd c) hq fun h O => ?_) hk
  rw [hp h]
  have ha := (hcd c).mp h
  have hr := relay b c n hn.1 hn.2.1 ha
  refine send_piece m K false b c n hn.1 ha (n := ⟨dv c, dl h⟩) (k := fun _ => k) (sm := omem (offs c) (inbs h)) (off := offd c) (inb := inbd h) (q := fullShare.left) (fs := travels m c) ?_ (hd c ha)
    (fun fd => land_block m false b c _ (offd c) (offs c) (inbd h) (inbs h) (hd c ha) (hs c ha) fd) (Fin.ext (hv c ha)) h1 h2 O
  unfold src opts
  rw [if_neg Bool.false_ne_true, if_neg (by omega), if_pos hr.1, omem_set _ (offs c) (inbs h) (hs c ha), hr.2]

/-- The conditional that waits for a piece along y and passes it across x. -/
theorem step_recv {R : sProp 𝕄} {b : Bool} {c : Dev nD} {n r n' r' : ℕ}
    {cf : Dev nD → BitVec 1} {offs offd : Dev nD → Fin 2 → ℕ} {inbs : cf c = 1#1 → _} {inbd : cf c = 1#1 → _} {dv : Dev nD → ℕ}
    {dl : cf c = 1#1 → dv c < nD} {q0 q1 q2 : DmaSem sig} {sm : cf c = 1#1 → Memref sig .tc .hbm S512x1024 .f32}
    {offw : Fin 2 → ℕ} {inbw : cf c = 1#1 → _}
    {α : Type} {p : cf c = 1#1 → PP (F := F) α} {q : ¬ cf c = 1#1 → PP (F := F) α} {k : PP (F := F) α} {Q : α → sProp 𝕄}
    (hq : ∀ h, q h = k)
    (hp : ∀ h, p h = .op (.waitDma2 q0 (sm h) (omem offw (inbw h)) (View.wordExact_bits rfl) (View.wordExact_bits rfl)) fun _ =>
      .op (.enqueueDma (omem (offs c) (inbs h)) (.remote (Dev.tc (⟨dv c, dl h⟩ : Dev nD) : Thread nD τ) (omem (offd c) (inbd h)) (.dma q1))
      (.dma q2) (View.wordExact_bits rfl) (View.wordExact_bits rfl) ⟨⟨rfl, Or.inl rfl⟩, trivial⟩) fun _ => k)
    (hk : St1 m K R (!b) c n' r' n (r + 1) ⊢ WP c k Q)
    (hn : r < 12 ∧ n ≤ r + 4 ∧ r < n ∧ r < n' := by decide)
    (hcd : ∀ c, cf c = 1#1 ↔ act true b c r = true := by decide +kernel)
    (hs : ∀ c, act true b c r = true → offs c = ![512 * blk true b c r, 0] := by decide +kernel)
    (hd : ∀ c, act true b c r = true → offd c = ![512 * blk true b c r, 0] := by decide +kernel)
    (hv : ∀ c, act true b c r = true → dv c = (tgt true b c).val := by decide +kernel)
    (h0 : q0 = slot false b true (pc r) := by rfl)
    (h1 : q1 = slot true b false (pc r) := by rfl) (h2 : q2 = slot true b true (pc r) := by rfl) :
    St1 m K R b c n r n' r' ⊢ WP c (dite (cf c = 1#1) p q) Q := by
  have hlv : lvk (kp false b true (pc r)) = 1 + r := by show 1 + (pc r).val = _; rw [pc_val hn.1]
  refine st1_turn m K R b c n r n' r' n (r + 1) (dir_recv m K b c n r hn.1 hn.2.1 _
    ((debt_above b c n r (1 + r) (by omega) (by omega)).add (debt_above (!b) c n' r' (1 + r) (by omega) (by omega))) (hcd c) hq
    (p' := fun h => .op (.enqueueDma (omem (offs c) (inbs h)) (.remote (Dev.tc (⟨dv c, dl h⟩ : Dev nD) : Thread nD τ) (omem (offd c) (inbd h)) (.dma q1))
      (.dma q2) (View.wordExact_bits rfl) (View.wordExact_bits rfl) ⟨⟨rfl, Or.inl rfl⟩, trivial⟩) fun _ => k)
    (fun h O hO => ?_) fun h O => ?_) hk
  · rw [hp h]
    have ha := (hcd c).mp h
    exact wait_piece m K false b true c r hn.1 (by show got false b c r = true; rw [got_y b c r hn.1]; exact ha) h0
      (sm := sm h) (dm := omem offw (inbw h))
      (k := fun _ => .op (.enqueueDma (omem (offs c) (inbs h)) (.remote (Dev.tc (⟨dv c, dl h⟩ : Dev nD) : Thread nD τ) (omem (offd c) (inbd h)) (.dma q1))
      (.dma q2) (View.wordExact_bits rfl) (View.wordExact_bits rfl) ⟨⟨rfl, Or.inl rfl⟩, trivial⟩) fun _ => k) (credit_piece offw (inbw h)) O (by rw [hlv]; exact hO) (if_pos rfl)
  · have ha := (hcd c).mp h
    refine send_piece m K true b c r hn.1 ha (n := ⟨dv c, dl h⟩) (k := fun _ => k) (sm := omem (offs c) (inbs h)) (off := offd c) (inb := inbd h) (q := fullShare.right) (fs := travels m c) ?_ (hd c ha)
      (fun fd => land_block m true b c _ (offd c) (offs c) (inbd h) (inbs h) (hd c ha) (hs c ha) fd) (Fin.ext (hv c ha)) h1 h2 O
    unfold src opts
    rw [if_pos rfl, if_pos ha, omem_set _ (offs c) (inbs h) (hs c ha)]

/-! ## The second phase -/

/-- A device in the second phase, direction `b` named first: `x` pieces across x and `y` along y waited for there, `x'` and
    `y'` in the other. It owes nothing any more. -/
def St2 (R : sProp 𝕄) (b : Bool) (c : Dev nD) (x y x' y' : ℕ) : sProp 𝕄 :=
  iprop(R ∗ per m K ∗ Fin' m b c x y ∗ Fin' m (!b) c x' y' ∗ owing (F := F) c 0)

/-- Moving one direction on moves the device on, and the other direction is named next. -/
theorem st2_turn (R : sProp 𝕄) (b : Bool) (c : Dev nD) (x y x' y' x₁ y₁ : ℕ) {α : Type} {p k : PP (F := F) α} {Q : α → sProp 𝕄}
    (hstep : iprop(per m K ∗ Fin' m b c x y ∗ owing (F := F) c 0)
      ⊢ iprop(((Fin' m b c x₁ y₁ ∗ owing (F := F) c 0) -∗ WP c k Q) -∗ WP c p Q))
    (hk : St2 m K R (!b) c x' y' x₁ y₁ ⊢ WP c k Q) : St2 m K R b c x y x' y' ⊢ WP c p Q := by
  unfold St2 at hk ⊢
  rw [Bool.not_not] at hk
  iintro ⟨HR, #HP, HD, HD', HO⟩
  iapply hstep $$ [HD HO]
  · isplitr; · iexact HP
    isplitl [HD]; · iexact HD
    iexact HO
  iintro ⟨HD, HO⟩
  iapply hk
  isplitl [HR]; · iexact HR
  isplitr; · iexact HP
  isplitl [HD']; · iexact HD'
  isplitl [HD]; · iexact HD
  iexact HO

/-- Once sent, a piece is waited for: its source is back and its send semaphore at zero. -/
theorem wait_sent (h b : Bool) (c : Dev nD) (t : ℕ) (ht : t < 12) (ha : act h b c t = true) {q : DmaSem sig} (hq : q = slot h b false (pc t))
    {sm dm : Memref sig .tc .hbm S512x1024 .f32} (hcr : dm.view.dmaCredit = NP) {hw1 : sm.view.WordExact} {hw2 : dm.view.WordExact}
    {α : Type} {k : PUnit → PP (F := F) α} {Q : α → sProp 𝕄} :
    iprop(per m K ∗ sent m h b c t ∗ owing (F := F) c 0)
      ⊢ iprop(((zero (F := F) h b false c t ∗ src m h b c t ∗ owing (F := F) c 0) -∗ WP c (k ⟨⟩) Q)
          -∗ WP c (.op (.waitDma2 q sm dm hw1 hw2) k) Q) := by
  unfold sent
  rw [if_pos ha]
  iintro ⟨HP, ⟨Hat, Hc⟩, HO⟩
  iapply (wait_piece m K h b false c t ht ha hq hcr 0 (Above.zero _) (if_neg Bool.false_ne_true))
  isplitl [HP]; · iexact HP
  isplitl [Hat]; · iexact Hat
  isplitl [Hc]; · iexact Hc
  iexact HO

/-- A piece that was not to be sent needs no wait. -/
theorem skip_sent (h b : Bool) (c : Dev nD) (t : ℕ) (ht : t < 12) (ha : ¬ act h b c t = true) :
    iprop(per m K ∗ sent m h b c t) ⊢ iprop(|={Set.univ}=> (zero (F := F) h b false c t ∗ src m h b c t)) := by
  unfold sent
  rw [if_neg ha]
  iintro ⟨HP, Hat, Hs⟩
  imod (skip_piece m K h b false c t ht ha) $$ [HP Hat] with Hz
  · isplitl [HP]; · iexact HP
    iexact Hat
  imodintro
  isplitl [Hz]; · iexact Hz
  iexact Hs

/-- The conditional that waits for a piece sent along y. -/
theorem step_ywait {R : sProp 𝕄} {b : Bool} {c : Dev nD} {x y x' y' : ℕ}
    {cf : Dev nD → BitVec 1} {q0 : DmaSem sig} {sm dm : cf c = 1#1 → Memref sig .tc .hbm S512x1024 .f32}
    {hw1 : ∀ h, (sm h).view.WordExact} {hw2 : ∀ h, (dm h).view.WordExact}
    {α : Type} {p : cf c = 1#1 → PP (F := F) α} {q : ¬ cf c = 1#1 → PP (F := F) α} {k : PP (F := F) α} {Q : α → sProp 𝕄}
    (hq : ∀ h, q h = k)
    (hp : ∀ h, p h = .op (.waitDma2 q0 (sm h) (dm h) (hw1 h) (hw2 h)) fun _ => k)
    (hcr : ∀ h, (dm h).view.dmaCredit = NP)
    (hk : St2 m K R (!b) c x' y' x (y + 1) ⊢ WP c k Q)
    (hy : y < 12 := by decide)
    (hcd : ∀ c, cf c = 1#1 ↔ act false b c y = true := by decide +kernel)
    (h0 : q0 = slot false b false (pc y) := by rfl) :
    St2 m K R b c x y x' y' ⊢ WP c (dite (cf c = 1#1) p q) Q := by
  refine st2_turn m K R b c x y x' y' x (y + 1) ?_ hk
  unfold Fin'
  rw [bigSep_Ico_succ_bot hy, bigSep_range_succ]
  iintro ⟨#HP, ⟨Hx, Hx', ⟨Hs, Hss⟩, Hz⟩, HO⟩ Hk
  by_cases h : cf c = 1#1
  · rw [dif_pos h, hp h]
    iapply (wait_sent m K false b c y hy ((hcd c).mp h) h0 (hcr h)) $$ [Hs HO]
    · isplitr; · iexact HP
      isplitl [Hs]; · iexact Hs
      iexact HO
    iintro ⟨Hz0, Hsrc, HO⟩
    iapply Hk
    isplitr [HO]
    · isplitl [Hx]; · iexact Hx
      isplitl [Hx']; · iexact Hx'
      isplitl [Hss]; · iexact Hss
      isplitl [Hz0 Hsrc]
      · isplitl [Hz0]; · iexact Hz0
        iexact Hsrc
      iexact Hz
    iexact HO
  · rw [dif_neg h, hq h]
    imod (skip_sent m K false b c y hy fun e => h ((hcd c).mpr e)) $$ [Hs] with ⟨Hz0, Hsrc⟩
    · isplitr; · iexact HP
      iexact Hs
    iapply Hk
    isplitr [HO]
    · isplitl [Hx]; · iexact Hx
      isplitl [Hx']; · iexact Hx'
      isplitl [Hss]; · iexact Hss
      isplitl [Hz0 Hsrc]
      · isplitl [Hz0]; · iexact Hz0
        iexact Hsrc
      iexact Hz
    iexact HO

/-- The conditional that waits for a piece across x, first received, then sent. -/
theorem step_xwait {R : sProp 𝕄} {b : Bool} {c : Dev nD} {x y x' y' : ℕ}
    {cf : Dev nD → BitVec 1} {q0 q1 : DmaSem sig} {sm dm sm' dm' : cf c = 1#1 → Memref sig .tc .hbm S512x1024 .f32}
    {hw1 : ∀ h, (sm h).view.WordExact} {hw2 : ∀ h, (dm h).view.WordExact} {hw3 : ∀ h, (sm' h).view.WordExact} {hw4 : ∀ h, (dm' h).view.WordExact}
    {α : Type} {p : cf c = 1#1 → PP (F := F) α} {q : ¬ cf c = 1#1 → PP (F := F) α} {k : PP (F := F) α} {Q : α → sProp 𝕄}
    (hq : ∀ h, q h = k)
    (hp : ∀ h, p h = .op (.waitDma2 q0 (sm h) (dm h) (hw1 h) (hw2 h)) fun _ => .op (.waitDma2 q1 (sm' h) (dm' h) (hw3 h) (hw4 h)) fun _ => k)
    (hcr : ∀ h, (dm h).view.dmaCredit = NP) (hcr' : ∀ h, (dm' h).view.dmaCredit = NP)
    (hk : St2 m K R (!b) c x' y' (x + 1) y ⊢ WP c k Q)
    (hx : x < 12 := by decide)
    (hcd : ∀ c, cf c = 1#1 ↔ act true b c x = true := by decide +kernel)
    (h0 : q0 = slot true b true (pc x) := by rfl) (h1 : q1 = slot true b false (pc x) := by rfl) :
    St2 m K R b c x y x' y' ⊢ WP c (dite (cf c = 1#1) p q) Q := by
  refine st2_turn m K R b c x y x' y' (x + 1) y ?_ hk
  unfold Fin'
  rw [bigSep_Ico_succ_bot hx, bigSep_range_succ]
  iintro ⟨#HP, ⟨⟨⟨Hd, Hs⟩, Hx⟩, Hx', Hy, Hy'⟩, HO⟩ Hk
  by_cases h : cf c = 1#1
  · have ha := (hcd c).mp h
    have hg : got true b c x = true := by rw [got_x b c x hx]; exact ha
    rw [dif_pos h, hp h]
    ihave Hd := (Entails.of_eq (show due (F := F) true b c x = iprop(atPos ER (cell c (kp true b true (pc x))) 0 ∅ 0
      ∗ cred (tallyAt (cell c (kp true b true (pc x))) () NP)) by unfold due; rw [if_pos hg])) $$ Hd
    icases Hd with ⟨Hat, Hc⟩
    iapply (wait_piece m K true b true c x hx hg h0 (hcr h) 0 (Above.zero _) (if_pos rfl)) $$ [Hat Hc HO]
    · isplitr; · iexact HP
      isplitl [Hat]; · iexact Hat
      isplitl [Hc]; · iexact Hc
      iexact HO
    iintro ⟨Hz, Hb, HO⟩
    iapply (wait_sent m K true b c x hx ha h1 (hcr' h)) $$ [Hs HO]
    · isplitr; · iexact HP
      isplitl [Hs]; · iexact Hs
      iexact HO
    iintro ⟨Hz0, Hsrc, HO⟩
    iapply Hk
    isplitr [HO]
    · isplitl [Hx]; · iexact Hx
      isplitl [Hz Hb Hz0 Hsrc Hx']
      · isplitl [Hz Hb Hz0 Hsrc]
        · isplitl [Hz]; · iexact Hz
          isplitl [Hb]
          · iapply (Entails.of_eq (show brought m true b c x = across m b c x by unfold across; rw [if_pos hg])); iexact Hb
          isplitl [Hz0]; · iexact Hz0
          iexact Hsrc
        iexact Hx'
      isplitl [Hy]; · iexact Hy
      iexact Hy'
    iexact HO
  · have ha : ¬ act true b c x = true := fun e => h ((hcd c).mpr e)
    have hg : ¬ got true b c x = true := by rw [got_x b c x hx]; exact ha
    rw [dif_neg h, hq h]
    ihave Hd := (show due (F := F) true b c x ⊢ atPos ER (cell c (kp true b true (pc x))) 0 ∅ 0 by
      unfold due; iintro ⟨Hat, -⟩; iexact Hat) $$ Hd
    imod (skip_piece m K true b true c x hx hg) $$ [Hd] with Hz
    · isplitr; · iexact HP
      iexact Hd
    imod (skip_sent m K true b c x hx ha) $$ [Hs] with ⟨Hz0, Hsrc⟩
    · isplitr; · iexact HP
      iexact Hs
    iapply Hk
    isplitr [HO]
    · isplitl [Hx]; · iexact Hx
      isplitl [Hz Hz0 Hsrc Hx']
      · isplitl [Hz Hz0 Hsrc]
        · isplitl [Hz]; · iexact Hz
          isplitr
          · iapply (Entails.of_eq (show (iprop(emp) : sProp 𝕄) = across m b c x by unfold across; rw [if_neg hg])); iempintro
          isplitl [Hz0]; · iexact Hz0
          iexact Hsrc
        iexact Hx'
      isplitl [Hy]; · iexact Hy
      iexact Hy'
    iexact HO

end Cert.Gather
-- ==== Proof.PhaseOne.lean ====
/-
The first phase, part by part: each printed part of the program takes a device from one state of its two directions to
a later one. The conditionals of a part come in the order: send along y on both directions, receive on both.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- A program that has come to its end. -/
theorem finish {P : sProp 𝕄} {c : Dev nD} {α : Type} {p : PP (F := F) α} {v : α} {Q : α → sProp 𝕄} (hp : p = .ret v) (hk : P ⊢ Q v) :
    P ⊢ WP c p Q := by
  subst hp
  show P ⊢ iprop(|={Set.univ}=> Q v)
  iintro H
  imodintro
  iapply hk
  iexact H

/-- From 0 steps of the first phase to 7. -/
theorem part50 {R : sProp 𝕄} {c : Dev nD} {Q : (BitVec 32) → sProp 𝕄} (v2 : BitVec 32) (v5 : BitVec 32) (v8 : BitVec 32) (v9 : BitVec 32) (v10 : BitVec 32) (v11 : BitVec 32) (v12 : BitVec 1) (v13 : BitVec 1) (c0_i32_14 : BitVec 32)
    (hk : ∀ v, St1 m K R false c 2 1 2 2 ⊢ Q v) :
    St1 m K R true c 0 0 0 0 ⊢ WP c (k0_part50 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 c0_i32_14) Q := by
  rw [k0_part50_eq_skeleton]
  unfold k0_part50_skel
  repeat first | refine step_own m K (fun _ => rfl) (fun _ => rfl) ?_ | refine step_recv m K (fun _ => rfl) (fun _ => rfl) ?_
  exact finish rfl (hk _)

/-- From 7 steps of the first phase to 14. -/
theorem part51 {R : sProp 𝕄} {c : Dev nD} {Q : (Σ' (v97 : BitVec 32), BitVec 32) → sProp 𝕄} (v2 : BitVec 32) (v5 : BitVec 32) (v8 : BitVec 32) (v9 : BitVec 32) (v10 : BitVec 32) (v11 : BitVec 32) (v12 : BitVec 1) (v13 : BitVec 1) (v64 : BitVec 32)
    (hk : ∀ v, St1 m K R true c 4 3 4 3 ⊢ Q v) :
    St1 m K R false c 2 1 2 2 ⊢ WP c (k0_part51 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 v64) Q := by
  rw [k0_part51_eq_skeleton]
  unfold k0_part51_skel
  repeat first | refine step_own m K (fun _ => rfl) (fun _ => rfl) ?_ | refine step_recv m K (fun _ => rfl) (fun _ => rfl) ?_
  exact finish rfl (hk _)

/-- From 14 steps of the first phase to 21. -/
theorem part52 {R : sProp 𝕄} {c : Dev nD} {Q : (BitVec 1) → sProp 𝕄} (v2 : BitVec 32) (v5 : BitVec 32) (v8 : BitVec 32) (v9 : BitVec 32) (v10 : BitVec 32) (v11 : BitVec 32) (v12 : BitVec 1) (v13 : BitVec 1) (v97 : BitVec 32) (c0_i32_53 : BitVec 32)
    (hk : ∀ v, St1 m K R false c 5 5 6 5 ⊢ Q v) :
    St1 m K R true c 4 3 4 3 ⊢ WP c (k0_part52 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 v97 c0_i32_53) Q := by
  rw [k0_part52_eq_skeleton]
  unfold k0_part52_skel
  repeat first | refine step_own m K (fun _ => rfl) (fun _ => rfl) ?_ | refine step_relay m K (fun _ => rfl) (fun _ => rfl) ?_ | refine step_recv m K (fun _ => rfl) (fun _ => rfl) ?_
  exact finish rfl (hk _)

/-- From 21 steps of the first phase to 28. -/
theorem part53 {R : sProp 𝕄} {c : Dev nD} {Q : (BitVec 1) → sProp 𝕄} (v2 : BitVec 32) (v5 : BitVec 32) (v8 : BitVec 32) (v9 : BitVec 32) (v10 : BitVec 32) (v11 : BitVec 32) (v12 : BitVec 1) (v13 : BitVec 1) (v131 : BitVec 1)
    (hk : ∀ v, St1 m K R true c 7 7 7 7 ⊢ Q v) :
    St1 m K R false c 5 5 6 5 ⊢ WP c (k0_part53 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 v131) Q := by
  rw [k0_part53_eq_skeleton]
  unfold k0_part53_skel
  repeat first | refine step_relay m K (fun _ => rfl) (fun _ => rfl) ?_ | refine step_recv m K (fun _ => rfl) (fun _ => rfl) ?_
  exact finish rfl (hk _)

/-- From 28 steps of the first phase to 35. -/
theorem part54 {R : sProp 𝕄} {c : Dev nD} {Q : (BitVec 1) → sProp 𝕄} (v2 : BitVec 32) (v5 : BitVec 32) (v8 : BitVec 32) (v9 : BitVec 32) (v10 : BitVec 32) (v11 : BitVec 32) (v12 : BitVec 1) (v13 : BitVec 1) (v165 : BitVec 1)
    (hk : ∀ v, St1 m K R false c 9 8 9 9 ⊢ Q v) :
    St1 m K R true c 7 7 7 7 ⊢ WP c (k0_part54 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 v165) Q := by
  rw [k0_part54_eq_skeleton]
  unfold k0_part54_skel
  repeat first | refine step_relay m K (fun _ => rfl) (fun _ => rfl) ?_ | refine step_recv m K (fun _ => rfl) (fun _ => rfl) ?_
  exact finish rfl (hk _)

/-- From 35 steps of the first phase to 42. -/
theorem part55 {R : sProp 𝕄} {c : Dev nD} {Q : (BitVec 1) → sProp 𝕄} (v2 : BitVec 32) (v5 : BitVec 32) (v8 : BitVec 32) (v9 : BitVec 32) (v10 : BitVec 32) (v11 : BitVec 32) (v12 : BitVec 1) (v13 : BitVec 1) (v198 : BitVec 1)
    (hk : ∀ v, St1 m K R true c 11 10 11 10 ⊢ Q v) :
    St1 m K R false c 9 8 9 9 ⊢ WP c (k0_part55 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 v198) Q := by
  rw [k0_part55_eq_skeleton]
  unfold k0_part55_skel
  repeat first | refine step_relay m K (fun _ => rfl) (fun _ => rfl) ?_ | refine step_recv m K (fun _ => rfl) (fun _ => rfl) ?_
  exact finish rfl (hk _)

end Cert.Gather
-- ==== Proof.PhaseTwo.lean ====
/-
The second phase, part by part: each printed part of the program takes a device from one state of its two directions to
a later one. The conditionals of a part come in the order: wait for a piece across x on both directions, wait for a
piece sent along y on both.
-/
module

public import proofs.«01_k».proof.Proof.PhaseOne

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- From 1 steps of the second phase to 8. -/
theorem part57 {R : sProp 𝕄} {c : Dev nD} {Q : (BitVec 32) → sProp 𝕄} (v2 : BitVec 32) (v5 : BitVec 32) (v8 : BitVec 32) (v9 : BitVec 32) (v12 : BitVec 1) (v13 : BitVec 1) (c2_i32_150 : BitVec 32)
    (hk : ∀ v, St2 m K R true c 2 2 2 2 ⊢ Q v) :
    St2 m K R false c 0 0 1 0 ⊢ WP c (k0_part57 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v12 v13 c2_i32_150) Q := by
  rw [k0_part57_eq_skeleton]
  unfold k0_part57_skel
  repeat first
    | refine step_xwait m K (fun _ => rfl) (fun _ => rfl) (fun _ => credit_piece _ _) (fun _ => credit_piece _ _) ?_
    | refine step_ywait m K (fun _ => rfl) (fun _ => rfl) (fun _ => credit_piece _ _) ?_
    | refine step_ywait m K (fun _ => rfl) (fun _ => rfl) (fun _ => credit_xpiece _ _) ?_
  exact finish rfl (hk _)

/-- From 8 steps of the second phase to 15. -/
theorem part58 {R : sProp 𝕄} {c : Dev nD} {Q : (Σ' (v331 : BitVec 32), BitVec 32) → sProp 𝕄} (v2 : BitVec 32) (v5 : BitVec 32) (v8 : BitVec 32) (v9 : BitVec 32) (v12 : BitVec 1) (v13 : BitVec 1) (v298 : BitVec 32)
    (hk : ∀ v, St2 m K R false c 4 3 4 4 ⊢ Q v) :
    St2 m K R true c 2 2 2 2 ⊢ WP c (k0_part58 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v12 v13 v298) Q := by
  rw [k0_part58_eq_skeleton]
  unfold k0_part58_skel
  repeat first
    | refine step_xwait m K (fun _ => rfl) (fun _ => rfl) (fun _ => credit_piece _ _) (fun _ => credit_piece _ _) ?_
    | refine step_ywait m K (fun _ => rfl) (fun _ => rfl) (fun _ => credit_piece _ _) ?_
    | refine step_ywait m K (fun _ => rfl) (fun _ => rfl) (fun _ => credit_xpiece _ _) ?_
  exact finish rfl (hk _)

/-- From 15 steps of the second phase to 22. -/
theorem part59 {R : sProp 𝕄} {c : Dev nD} {Q : (BitVec 1) → sProp 𝕄} (v2 : BitVec 32) (v5 : BitVec 32) (v8 : BitVec 32) (v9 : BitVec 32) (v12 : BitVec 1) (v13 : BitVec 1) (v331 : BitVec 32) (c0_i32_189 : BitVec 32)
    (hk : ∀ v, St2 m K R true c 6 5 6 5 ⊢ Q v) :
    St2 m K R false c 4 3 4 4 ⊢ WP c (k0_part59 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v12 v13 v331 c0_i32_189) Q := by
  rw [k0_part59_eq_skeleton]
  unfold k0_part59_skel
  repeat first
    | refine step_xwait m K (fun _ => rfl) (fun _ => rfl) (fun _ => credit_piece _ _) (fun _ => credit_piece _ _) ?_
    | refine step_ywait m K (fun _ => rfl) (fun _ => rfl) (fun _ => credit_piece _ _) ?_
    | refine step_ywait m K (fun _ => rfl) (fun _ => rfl) (fun _ => credit_xpiece _ _) ?_
  exact finish rfl (hk _)

/-- From 22 steps of the second phase to 29. -/
theorem part60 {R : sProp 𝕄} {c : Dev nD} {Q : (Σ' (v398 : BitVec 32), BitVec 32) → sProp 𝕄} (v2 : BitVec 32) (v5 : BitVec 32) (v8 : BitVec 32) (v9 : BitVec 32) (v12 : BitVec 1) (v13 : BitVec 1) (v365 : BitVec 1)
    (hk : ∀ v, St2 m K R false c 7 7 8 7 ⊢ Q v) :
    St2 m K R true c 6 5 6 5 ⊢ WP c (k0_part60 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v12 v13 v365) Q := by
  rw [k0_part60_eq_skeleton]
  unfold k0_part60_skel
  repeat first
    | refine step_xwait m K (fun _ => rfl) (fun _ => rfl) (fun _ => credit_piece _ _) (fun _ => credit_piece _ _) ?_
    | refine step_ywait m K (fun _ => rfl) (fun _ => rfl) (fun _ => credit_piece _ _) ?_
    | refine step_ywait m K (fun _ => rfl) (fun _ => rfl) (fun _ => credit_xpiece _ _) ?_
  exact finish rfl (hk _)

/-- From 29 steps of the second phase to 36. -/
theorem part61 {R : sProp 𝕄} {c : Dev nD} {Q : (BitVec 1) → sProp 𝕄} (v2 : BitVec 32) (v5 : BitVec 32) (v8 : BitVec 32) (v9 : BitVec 32) (v12 : BitVec 1) (v13 : BitVec 1) (v398 : BitVec 32) (c1_i32_228 : BitVec 32)
    (hk : ∀ v, St2 m K R true c 9 9 9 9 ⊢ Q v) :
    St2 m K R false c 7 7 8 7 ⊢ WP c (k0_part61 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v12 v13 v398 c1_i32_228) Q := by
  rw [k0_part61_eq_skeleton]
  unfold k0_part61_skel
  repeat first
    | refine step_xwait m K (fun _ => rfl) (fun _ => rfl) (fun _ => credit_piece _ _) (fun _ => credit_piece _ _) ?_
    | refine step_ywait m K (fun _ => rfl) (fun _ => rfl) (fun _ => credit_piece _ _) ?_
    | refine step_ywait m K (fun _ => rfl) (fun _ => rfl) (fun _ => credit_xpiece _ _) ?_
  exact finish rfl (hk _)

/-- From 36 steps of the second phase to 43. -/
theorem part62 {R : sProp 𝕄} {c : Dev nD} {Q : (BitVec 1) → sProp 𝕄} (v2 : BitVec 32) (v5 : BitVec 32) (v8 : BitVec 32) (v9 : BitVec 32) (v12 : BitVec 1) (v13 : BitVec 1) (v432 : BitVec 1)
    (hk : ∀ v, St2 m K R false c 11 10 11 11 ⊢ Q v) :
    St2 m K R true c 9 9 9 9 ⊢ WP c (k0_part62 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v12 v13 v432) Q := by
  rw [k0_part62_eq_skeleton]
  unfold k0_part62_skel
  repeat first
    | refine step_xwait m K (fun _ => rfl) (fun _ => rfl) (fun _ => credit_piece _ _) (fun _ => credit_piece _ _) ?_
    | refine step_ywait m K (fun _ => rfl) (fun _ => rfl) (fun _ => credit_piece _ _) ?_
    | refine step_ywait m K (fun _ => rfl) (fun _ => rfl) (fun _ => credit_xpiece _ _) ?_
  exact finish rfl (hk _)

end Cert.Gather
-- ==== Proof.Turn.lean ====
/-
Between the two phases: the local copy's wait. After the last piece along y nothing is owed any more, the local copy is
waited for, and what is left are the waits for the pieces across x and for the pieces sent.
-/
module

public import proofs.«01_k».proof.Proof.PhaseTwo

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- The rows of the argument that no piece is sent from, at the share of direction `b`. -/
def xidle (b : Bool) (c : Dev nD) : sProp 𝕄 :=
  bigSep (Finset.range 4) fun t => xpts c (4 * (1 - cx c) + t) (qs b) (m (xloc c))

/-- The receipts across x that direction `b` still expects, all twelve. -/
def dues (b : Bool) (c : Dev nD) : sProp 𝕄 := bigSep (Finset.range 12) (due (F := F) true b c)

/-- What direction `b` keeps from the first phase: the halves of the last blocks received, and the counters of the receipts
    along y. -/
def tail (b : Bool) (c : Dev nD) : sProp 𝕄 :=
  iprop(bigSep (Finset.Ico 12 16) (src m false b c) ∗ bigSep (Finset.range 12) (zero (F := F) false b true c))

/-- What a device holds besides its two directions during the first phase. -/
def Keep1 (c : Dev nD) : sProp 𝕄 :=
  iprop((xidle m true c ∗ xidle m false c) ∗ semVal (cell c kbar) 0 ∗ (atPos ER (cell c kcp) 0 ∅ 0 ∗ cred (tallyAt (cell c kcp) () NC))
    ∗ dues (F := F) true c ∗ dues (F := F) false c)

/-- What a device holds besides its two directions during the second phase. -/
def Keep2 (c : Dev nD) : sProp 𝕄 :=
  iprop((xidle m true c ∗ xidle m false c) ∗ semVal (cell c kbar) 0 ∗ (semVal (cell c kcp) 0 ∗ copied m c)
    ∗ tail m true c ∗ tail m false c)

/-- A direction at the end of the first phase, with the receipts it expects across x, is at the start of the second. -/
theorem dir_fin (b : Bool) (c : Dev nD) :
    iprop(Dir m b c 12 12 ∗ dues (F := F) b c) ⊢ iprop(Fin' m b c 0 0 ∗ tail m b c) := by
  unfold Dir Fin' dues tail
  rw [Finset.Ico_self, bigSep_sep', bigSep_sep', ← Finset.range_eq_Ico, bigSep_sep', Finset.range_zero]
  iintro ⟨⟨-, Hs, Hsrc, -, Hz, Hx⟩, Hd⟩
  isplitl [Hs Hx Hd]
  · isplitl [Hx Hd]
    · isplitl [Hd]; · iexact Hd
      iexact Hx
    isplitr
    · rw [bigSep_empty]; iempintro
    isplitl [Hs]; · iexact Hs
    rw [bigSep_empty]; iempintro
  isplitl [Hsrc]; · iexact Hsrc
  iexact Hz

/-- Waiting for the local copy: the device's own chunk is filled, and the share of the argument is back. -/
theorem wait_copy {c : Dev nD} {q : DmaSem sig} (hq : q = (0 : Fin 97)) {sm dm : Memref sig .tc .hbm S4096x1024 .f32} (hcr : dm.view.dmaCredit = NC)
    {hw1 : sm.view.WordExact} {hw2 : dm.view.WordExact}
    {α : Type} {k : PUnit → PP (F := F) α} {Q : α → sProp 𝕄} :
    iprop(per m K ∗ (atPos ER (cell c kcp) 0 ∅ 0 ∗ cred (tallyAt (cell c kcp) () NC)) ∗ owing (F := F) c 0)
      ⊢ iprop((((semVal (cell c kcp) 0 ∗ copied m c) ∗ owing (F := F) c 0) -∗ WP c (k ⟨⟩) Q)
          -∗ WP c (.op (.waitDma2 q sm dm hw1 hw2) k) Q) := by
  subst hq
  unfold per owing
  iintro ⟨⟨#HR, #Hlev⟩, ⟨Hat, Hc⟩, ⟨%W, HO⟩⟩ Hk
  ihave #HI := (recs_at m K (c, kcp)) $$ HR
  icases HI with ⟨#Hi, -⟩
  iapply (Rounds.wp_wait_rest_token 𝒱₀ ER (Rd m) (c : Thread nD τ) none (κ := K (c, kcp)) (sm := csem kcp) (k' := NC)
      (fun KK => (wpE_waitDma2_eq 𝒱₀ (c : Thread nD τ) none Set.univ KK).trans (by rw [hcr]; rfl)) (Set.mem_univ _) () (O := 0) (W := W) (R := 0) (m := 0) (T := ∅)
      (by rw [expect_cell, show dut c kcp = {0} from rfl, Finset.card_singleton, Nat.one_mul, Nat.zero_add]; rfl)) $$ [Hat Hc HO]
  · isplitr; · iexact Hi
    isplitl [Hc]; · iexact Hc
    isplitl [HO]; · iexact HO
    isplitr; · iapply (mayWait c kcp 0 (Above.zero _)); iexact Hlev
    iexact Hat
  iintro ⟨HO, Hat, -, Hpay⟩
  ihave Hp := (Entails.of_eq (rest_copy m c)) $$ Hpay
  imod (Rounds.cell_close ER (Rd m) (Set.mem_univ (K (c, kcp))) (fun h => h) (R := 0 + 1) (duties_later m _)) $$ [Hat] with Hz
  · isplitr; · iexact Hi
    iexact Hat
  iapply Hk
  isplitl [Hz Hp]
  · isplitl [Hz]; · iexact Hz
    iexact Hp
  iexists _; iexact HO

/-- From the first phase to the second, over the local copy's wait. -/
theorem step_turn {c : Dev nD} {q0 : DmaSem sig} {sm dm : Memref sig .tc .hbm S4096x1024 .f32}
    {hw1 : sm.view.WordExact} {hw2 : dm.view.WordExact} {α : Type} {p k : PP (F := F) α} {Q : α → sProp 𝕄}
    (hp : p = .op (.waitDma2 q0 sm dm hw1 hw2) fun _ => k) (hcr : dm.view.dmaCredit = NC)
    (hk : St2 m K (Keep2 m c) true c 0 0 0 0 ⊢ WP c k Q) (h0 : q0 = (0 : Fin 97) := by rfl) :
    St1 m K (Keep1 m c) true c 12 12 12 12 ⊢ WP c p Q := by
  subst hp
  unfold St1 Keep1
  rw [show debt true c 12 12 + debt (!true) c 12 12 = 0 by unfold debt; simp only [obs_end, add_zero]]
  iintro ⟨⟨Hx, Hb, Hcp, Hd, Hd'⟩, #HP, HD, HD', HO⟩
  iapply (wait_copy m K h0 hcr) $$ [Hcp HO]
  · isplitr; · iexact HP
    isplitl [Hcp]; · iexact Hcp
    iexact HO
  iintro ⟨Hcp, HO⟩
  ihave HF := (dir_fin m true c) $$ [HD Hd]
  · isplitl [HD]; · iexact HD
    iexact Hd
  ihave HF' := (dir_fin m false c) $$ [HD' Hd']
  · isplitl [HD']; · iexact HD'
    iexact Hd'
  icases HF with ⟨HF, Ht⟩
  icases HF' with ⟨HF', Ht'⟩
  iapply hk
  unfold St2 Keep2
  isplitl [Hx Hb Hcp Ht Ht']
  · isplitl [Hx]; · iexact Hx
    isplitl [Hb]; · iexact Hb
    isplitl [Hcp]; · iexact Hcp
    isplitl [Ht]; · iexact Ht
    iexact Ht'
  isplitr; · iexact HP
  isplitl [HF]; · iexact HF
  isplitl [HF']; · iexact HF'
  iexact HO

/-- From 42 steps of the first phase to the first of the second. -/
theorem part56 {c : Dev nD} {Q : BitVec 32 → sProp 𝕄} (v2 v5 v8 v9 v10 v11 : BitVec 32) (v12 v13 v232 : BitVec 1)
    (hk : ∀ v, St2 m K (Keep2 m c) false c 0 0 1 0 ⊢ Q v) :
    St1 m K (Keep1 m c) true c 11 10 11 10 ⊢ WP c (k0_part56 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8 c v2 v5 v8 v9 v10 v11 v12 v13 v232) Q := by
  rw [k0_part56_eq_skeleton]
  unfold k0_part56_skel
  repeat first
    | refine step_relay m K (fun _ => rfl) (fun _ => rfl) ?_
    | refine step_recv m K (fun _ => rfl) (fun _ => rfl) ?_
  refine step_turn m K rfl (credit_chunk _ _) ?_
  refine step_xwait m K (fun _ => rfl) (fun _ => rfl) (fun _ => credit_piece _ _) (fun _ => credit_piece _ _) ?_
  exact finish rfl (hk _)

end Cert.Gather
-- ==== Proof.Buffers.lean ====
/-
A device's two buffers taken apart and put together again: the result as the device's own chunk and one block for each
piece it receives; the argument as a half for the local copy and a quarter for each direction along y, by blocks.
-/
module

public import proofs.«01_k».proof.Proof.Turn

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Something for each of a stream's twelve pieces. -/
theorem over_twelve (Φ : ℕ → sProp 𝕄) : bigSep Finset.univ (fun t : Fin 12 => Φ t.val) = bigSep (Finset.range 12) Φ := by
  rw [← Nat.Iio_eq_range, ← Fin.map_valEmbedding_univ, bigSep_map]; rfl

/-- Something for either direction. -/
theorem over_two (Φ : Bool → sProp 𝕄) : bigSep Finset.univ Φ = iprop(Φ true ∗ Φ false) :=
  bigSep_univ_eq_bigSepL [true, false] (by decide) (by decide) Φ

/-- Something for every piece of every stream. -/
theorem over_pieces (Φ : Bool → Bool → ℕ → sProp 𝕄) :
    bigSep Finset.univ (fun p : Piece => Φ p.1 p.2.1 p.2.2.val)
      = iprop((bigSep (Finset.range 12) (Φ true true) ∗ bigSep (Finset.range 12) (Φ true false))
          ∗ bigSep (Finset.range 12) (Φ false true) ∗ bigSep (Finset.range 12) (Φ false false)) := by
  rw [bigSep_univ_prod, over_two, bigSep_univ_prod, bigSep_univ_prod, over_two, over_two]
  simp only [over_twelve]

/-- The block that piece `t` of stream `(h, b)` brings device `c`, if it brings one, at contents `f`. -/
def here (h b : Bool) (c : Dev nD) (t : ℕ) (f : Buf (Elt F) (oloc c)) : sProp 𝕄 :=
  if got h b c t = true then opts c (gblk h b c t) fullShare f else iprop(emp)

theorem union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem share_eq {ℓ : Loc nD τ sig} {I : Finset (Idx ℓ)} {f : Buf (Elt F) ℓ} (q : PosShare TreeShare) :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

theorem rows_disjoint {r r' : ℕ} (h : r ≠ r') : Disjoint (rows r) (rows r') :=
  Finset.disjoint_left.mpr fun i hi hi' => h ((Finset.mem_filter.mp hi).2.symm.trans (Finset.mem_filter.mp hi').2)

theorem xrows_disjoint {r r' : ℕ} (h : r ≠ r') : Disjoint (xrows r) (xrows r') :=
  Finset.disjoint_left.mpr fun i hi hi' => h ((Finset.mem_filter.mp hi).2.symm.trans (Finset.mem_filter.mp hi').2)

/-- A block that comes from elsewhere lies outside the device's own chunk. -/
theorem gblk_ne (c : Dev nD) (p : Piece) (hp : p ∈ rset c) : gblk p.1 p.2.1 c p.2.2.val / 8 ≠ cy c := by
  have h : gblk p.1 p.2.1 c p.2.2.val ∈ (rset c).image (fun p : Piece => gblk p.1 p.2.1 c p.2.2.val) := Finset.mem_image_of_mem _ hp
  rw [gblk_image] at h
  exact (Finset.mem_filter.mp h).2

/-- The result is the device's own chunk and the blocks it receives. -/
theorem out_split (c : Dev nD) (f : Buf (Elt F) (oloc c)) :
    (oloc c ↦[Finset.univ]{fullShare} f : sProp 𝕄)
      = iprop((oloc c ↦[chunk (cy c)]{fullShare} f) ∗ bigSep Finset.univ fun p : Piece => here p.1 p.2.1 c p.2.2.val f) := by
  have hu : (Finset.univ : Finset S16384x1024.Idx) = chunk (cy c) ∪ (rset c).biUnion fun p => rows (gblk p.1 p.2.1 c p.2.2.val) := by
    refine (Finset.ext fun i => ?_)
    refine ⟨fun _ => ?_, fun _ => Finset.mem_univ _⟩
    rw [Finset.mem_union]
    by_cases h : (i 0).val / 4096 = cy c
    · exact Or.inl (Finset.mem_filter.mpr ⟨Finset.mem_univ _, h⟩)
    · have h0 : (i 0).val < 16384 := (i 0).isLt
      have hr : (i 0).val / 512 ∈ (Finset.range 32).filter fun r => r / 8 ≠ cy c :=
        Finset.mem_filter.mpr ⟨Finset.mem_range.mpr (by omega), by
          rw [Nat.div_div_eq_div_mul]; exact h⟩
      rw [← gblk_image] at hr
      obtain ⟨p, hp, e⟩ := Finset.mem_image.mp hr
      exact Or.inr (Finset.mem_biUnion.mpr ⟨p, hp, Finset.mem_filter.mpr ⟨Finset.mem_univ _, e.symm⟩⟩)
  have hd : Disjoint (chunk (cy c)) ((rset c).biUnion fun p => rows (gblk p.1 p.2.1 c p.2.2.val)) := by
    refine (Finset.disjoint_biUnion_right _ _ _).mpr fun p hp => Finset.disjoint_left.mpr fun i hi hi' => gblk_ne c p hp ?_
    rw [← (Finset.mem_filter.mp hi').2, Nat.div_div_eq_div_mul]
    exact (Finset.mem_filter.mp hi).2
  refine (congrArg (fun S => (oloc c ↦[S]{fullShare} f : sProp 𝕄)) hu).trans ?_
  rw [union_eq hd, pointsTo_biUnion _ _ fun p hp p' hp' hne => rows_disjoint fun e => hne (gblk_inj c hp hp' e)]
  unfold rset
  rw [bigSep_filter]
  rfl

/-- A device's rows of the argument: those it sends from, and those it does not. -/
theorem arg_split (c : Dev nD) (q : PosShare TreeShare) (f : Buf (Elt F) (xloc c)) :
    (xloc c ↦[Finset.univ]{q} f : sProp 𝕄)
      = iprop(bigSep (Finset.range 4) (fun t => xpts c (4 * cx c + t) q f) ∗ bigSep (Finset.range 4) (fun t => xpts c (4 * (1 - cx c) + t) q f)) := by
  have hc := cx_lt c
  have hu : (Finset.univ : Finset S4096x1024.Idx) = ((Finset.range 4).biUnion fun t => xrows (4 * cx c + t)) ∪ (Finset.range 4).biUnion fun t => xrows (4 * (1 - cx c) + t) := by
    refine (Finset.ext fun i => ?_)
    refine ⟨fun _ => ?_, fun _ => Finset.mem_univ _⟩
    have h0 : (i 0).val < 4096 := (i 0).isLt
    rw [Finset.mem_union, Finset.mem_biUnion, Finset.mem_biUnion]
    by_cases h : (i 0).val / 2048 = cx c
    · exact Or.inl ⟨(i 0).val / 512 % 4, Finset.mem_range.mpr (by omega), Finset.mem_filter.mpr ⟨Finset.mem_univ _, by omega⟩⟩
    · exact Or.inr ⟨(i 0).val / 512 % 4, Finset.mem_range.mpr (by omega), Finset.mem_filter.mpr ⟨Finset.mem_univ _, by omega⟩⟩
  have hd : Disjoint ((Finset.range 4).biUnion fun t => xrows (4 * cx c + t)) ((Finset.range 4).biUnion fun t => xrows (4 * (1 - cx c) + t)) := by
    refine (Finset.disjoint_biUnion_right _ _ _).mpr fun t ht => (Finset.disjoint_biUnion_left _ _ _).mpr fun t' ht' => xrows_disjoint ?_
    rw [Finset.mem_range] at ht ht'
    omega
  refine (congrArg (fun S => (xloc c ↦[S]{q} f : sProp 𝕄)) hu).trans ?_
  rw [union_eq hd, pointsTo_biUnion _ _ fun t _ t' _ h => xrows_disjoint fun e => h (by omega),
    pointsTo_biUnion _ _ fun t _ t' _ h => xrows_disjoint fun e => h (by omega)]
  rfl

/-- The argument whole: the local copy's half, and each direction's quarter. -/
theorem arg_shares (c : Dev nD) (f : Buf (Elt F) (xloc c)) :
    (xloc c ↦[Finset.univ]{fullShare} f : sProp 𝕄)
      = iprop((xloc c ↦[Finset.univ]{fullShare.left} f) ∗ (xloc c ↦[Finset.univ]{qs true} f) ∗ (xloc c ↦[Finset.univ]{qs false} f)) := by
  rw [share_eq fullShare, share_eq fullShare.right]
  rfl

/-- The first four pieces of a y-stream come from the device's own rows of the argument. -/
theorem src_own (b : Bool) (c : Dev nD) :
    bigSep (Finset.range 4) (fun t => xpts c (4 * cx c + t) (qs b) (m (xloc c))) = bigSep (Finset.range 4) (src m false b c) :=
  bigSep_congr fun t ht => by
    unfold src; rw [if_neg Bool.false_ne_true, if_pos (Finset.mem_range.mp ht)]

/-- The argument whole: the local copy's half, what the y-streams send from first, and what they never send from. -/
theorem arg_take (c : Dev nD) :
    (xloc c ↦[Finset.univ]{fullShare} m (xloc c) : sProp 𝕄)
      = iprop((xloc c ↦[Finset.univ]{fullShare.left} m (xloc c)) ∗ (bigSep (Finset.range 4) (src m false true c) ∗ xidle m true c)
          ∗ (bigSep (Finset.range 4) (src m false false c) ∗ xidle m false c)) := by
  rw [arg_shares, arg_split c (qs true), arg_split c (qs false), src_own, src_own]
  rfl

/-- A block of a device's own result, at any contents, is the room of the device that is to fill it. -/
theorem here_room (h b : Bool) (c : Dev nD) (f : Buf (Elt F) (oloc c)) :
    bigSep (Finset.range 12) (fun t => here h b c t f) ⊢ rooms (F := F) h b (tgt h (!b) c) := by
  unfold rooms
  refine bigSep_mono fun t _ => (show here h b c t f ⊢ room (F := F) h b (tgt h (!b) c) t from ?_)
  unfold here room
  by_cases hg : got h b c t = true
  · rw [if_pos hg, if_pos hg, tgt_tgt']
    iintro H
    iexists f
    iexact H
  · rw [if_neg hg, if_neg hg]

/-- The result at any contents: the device's own chunk, and the room that each of its four sources needs. -/
theorem out_rooms (c : Dev nD) (f : Buf (Elt F) (oloc c)) :
    (oloc c ↦[Finset.univ]{fullShare} f : sProp 𝕄)
      ⊢ iprop((oloc c ↦[chunk (cy c)]{fullShare} f)
          ∗ (rooms (F := F) true true (tgt true false c) ∗ rooms (F := F) true false (tgt true true c))
          ∗ rooms (F := F) false true (tgt false false c) ∗ rooms (F := F) false false (tgt false true c)) := by
  rw [out_split, over_pieces (fun h b t => here h b c t f)]
  exact sep_mono_right (BI.sep_mono (BI.sep_mono (here_room true true c f) (here_room true false c f)) (BI.sep_mono (here_room false true c f) (here_room false false c f)))

/-- A block received along y, its two halves back from where they were passed on. -/
theorem halves_join (b : Bool) (c : Dev nD) (t : ℕ) (ht : t < 12) :
    iprop(src m false b c (t + 4) ∗ src m true b c t) ⊢ here false b c t (travels m c) := by
  unfold src here
  rw [if_neg Bool.false_ne_true, if_neg (by omega), Nat.add_sub_cancel, if_pos rfl, got_y b c t ht]
  by_cases ha : act true b c t = true
  · rw [if_pos ha, if_pos ha, if_pos ha, gblk_y b c t ht ha]
    unfold opts
    exact (pointsTo_share (PosShare.mem_left_op_right fullShare)).2
  · rw [if_neg ha, if_neg ha, if_neg ha]
    iintro ⟨H, -⟩
    iexact H

/-- Sixteen sources: the four own ones, and one for each piece received. -/
theorem src_sixteen (b : Bool) (c : Dev nD) :
    iprop(bigSep (Finset.range 12) (src m false b c) ∗ bigSep (Finset.Ico 12 16) (src m false b c))
      = iprop(bigSep (Finset.range 4) (src m false b c) ∗ bigSep (Finset.range 12) fun t => src m false b c (t + 4)) := by
  have e1 : Finset.range 16 = Finset.range 12 ∪ Finset.Ico 12 16 := by decide
  have e2 : Finset.range 16 = Finset.range 4 ∪ (Finset.range 12).map (addRightEmbedding 4) := by decide
  refine (bigSep_union (by decide : Disjoint (Finset.range 12) (Finset.Ico 12 16))).symm.trans ?_
  rw [← e1, e2, bigSep_union (by decide), bigSep_map]
  rfl

/-- All four of direction `b`'s semaphores of every piece, back at zero. -/
def zeros (h b : Bool) (c : Dev nD) : sProp 𝕄 :=
  iprop(bigSep (Finset.range 12) (zero (F := F) h b true c) ∗ bigSep (Finset.range 12) (zero (F := F) h b false c))

/-- A direction at the end: its counters, the device's own rows of the argument, and all blocks received. -/
theorem dir_end (b : Bool) (c : Dev nD) :
    iprop(Fin' m b c 12 12 ∗ tail m b c)
      ⊢ iprop((zeros (F := F) true b c ∗ zeros (F := F) false b c) ∗ bigSep (Finset.range 4) (src m false b c)
          ∗ bigSep (Finset.range 12) (fun t => here true b c t (travels m c)) ∗ bigSep (Finset.range 12) (fun t => here false b c t (travels m c))) := by
  unfold Fin' tail zeros
  simp only [bigSep_sep']
  iintro ⟨⟨-, ⟨Hz1, Ha, Hz2, Hs1⟩, -, ⟨Hz3, Hs⟩⟩, Ht, Hz4⟩
  ihave Hs := (Entails.of_eq (src_sixteen m b c)) $$ [Hs Ht]
  · isplitl [Hs]; · iexact Hs
    iexact Ht
  icases Hs with ⟨Hs, Hs2⟩
  isplitl [Hz1 Hz2 Hz3 Hz4]
  · isplitl [Hz1 Hz2]
    · isplitl [Hz1]; · iexact Hz1
      iexact Hz2
    isplitl [Hz4]; · iexact Hz4
    iexact Hz3
  isplitl [Hs]; · iexact Hs
  isplitl [Ha]; · iexact Ha
  iapply (show bigSep (Finset.range 12) (fun t => iprop(src m false b c (t + 4) ∗ src m true b c t))
      ⊢ bigSep (Finset.range 12) (fun t => here false b c t (travels m c))
    from bigSep_mono fun t ht => halves_join m b c t (Finset.mem_range.mp ht))
  rw [bigSep_sep']
  isplitl [Hs2]; · iexact Hs2
  iexact Hs1

/-- The blocks received, with the rows that travelled, are the result's. -/
theorem here_result (c : Dev nD) :
    bigSep Finset.univ (fun p : Piece => here p.1 p.2.1 c p.2.2.val (travels m c))
      = bigSep Finset.univ (fun p : Piece => here p.1 p.2.1 c p.2.2.val (result m c)) := by
  refine bigSep_congr fun p _ => ?_
  unfold here
  by_cases hg : got p.1 p.2.1 c p.2.2.val = true
  · rw [if_pos hg, if_pos hg]
    unfold opts
    refine pointsTo_congr fun i hi => ?_
    refine (if_neg ?_).symm
    have h := gblk_ne c p (Finset.mem_filter.mpr ⟨Finset.mem_univ _, hg⟩)
    rw [← (Finset.mem_filter.mp hi).2, Nat.div_div_eq_div_mul] at h
    exact h
  · rw [if_neg hg, if_neg hg]

/-- What a device ends with: its argument unchanged, its result, and every counter at zero. -/
def Final (c : Dev nD) : sProp 𝕄 :=
  iprop((xloc c ↦[Finset.univ]{fullShare} m (xloc c)) ∗ (oloc c ↦[Finset.univ]{fullShare} result m c)
    ∗ semVal (cell c kbar) 0 ∗ semVal (cell c kcp) 0
    ∗ (zeros (F := F) true true c ∗ zeros (F := F) true false c) ∗ zeros (F := F) false true c ∗ zeros (F := F) false false c)

/-- The second phase over, everything is put together. -/
theorem final (c : Dev nD) :
    iprop(Keep2 m c ∗ Fin' m true c 12 12 ∗ Fin' m false c 12 12) ⊢ Final m c := by
  unfold Keep2 Final copied
  rw [arg_take, out_split, ← here_result, over_pieces (fun h b t => here h b c t (travels m c))]
  iintro ⟨⟨⟨Hi, Hi'⟩, Hb, ⟨Hcp, Hch, Hx⟩, Ht, Ht'⟩, HF, HF'⟩
  ihave HE := (dir_end m true c) $$ [HF Ht]
  · isplitl [HF]; · iexact HF
    iexact Ht
  ihave HE' := (dir_end m false c) $$ [HF' Ht']
  · isplitl [HF']; · iexact HF'
    iexact Ht'
  icases HE with ⟨⟨Z1, Z2⟩, Hs, A1, A2⟩
  icases HE' with ⟨⟨Z3, Z4⟩, Hs', A3, A4⟩
  isplitl [Hx Hi Hi' Hs Hs']
  · isplitl [Hx]; · iexact Hx
    isplitl [Hi Hs]
    · isplitl [Hs]; · iexact Hs
      iexact Hi
    isplitl [Hs']; · iexact Hs'
    iexact Hi'
  isplitl [Hch A1 A2 A3 A4]
  · isplitl [Hch]; · iexact Hch
    isplitl [A1 A3]
    · isplitl [A1]; · iexact A1
      iexact A3
    isplitl [A2]; · iexact A2
    iexact A4
  isplitl [Hb]; · iexact Hb
  isplitl [Hcp]; · iexact Hcp
  isplitl [Z1 Z3]
  · isplitl [Z1]; · iexact Z1
    iexact Z3
  isplitl [Z2]; · iexact Z2
  iexact Z4

end Cert.Gather
-- ==== Proof.Start.lean ====
/-
The start of the body: each device tells its partner and its neighbours along y that it is there, handing each the room
that device is to fill; it waits for the same from them, and starts the copy of its own chunk.
-/
module

public import proofs.«01_k».proof.Proof.Buffers

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- What a device owes another's barrier: a unit where it is to signal. -/
def unit (g : Dev nD) (d : Fin 3) : CellTallies nD τ sig Unit := if sig3 g d = true then tallyAt (cell g kbar) () 1 else 0

/-- All that a device owes at the start. -/
def O₀ (c : Dev nD) : CellTallies nD τ sig Unit :=
  debt true c 0 0 + debt (!true) c 0 0 + unit (tgt false true c) 2 + unit (tgt false false c) 1 + unit (tgt true true c) 0

/-- A piece not yet sent, but for the room it will fill. -/
def seed (h b : Bool) (c : Dev nD) (t : ℕ) : sProp 𝕄 :=
  iprop(atPos ER (cell c (kp h b false (pc t))) 0 ∅ 0 ∗ dutyTok ER (cell c (kp h b false (pc t))) 0 0
    ∗ dutyTok ER (cell (tgt h b c) (kp h b true (pc t))) 0 0)

def seeds (h b : Bool) (c : Dev nD) : sProp 𝕄 := bigSep (Finset.range 12) (seed (F := F) h b c)

/-- The receipts along y that direction `b` expects. -/
def ydues (b : Bool) (c : Dev nD) : sProp 𝕄 := bigSep (Finset.range 12) (due (F := F) false b c)

/-- What a device starts with, its result at contents `f`. -/
def Start (c : Dev nD) (f : Buf (Elt F) (oloc c)) : sProp 𝕄 :=
  iprop((xloc c ↦[Finset.univ]{fullShare} m (xloc c)) ∗ (oloc c ↦[Finset.univ]{fullShare} f)
    ∗ (atPos ER (cell c kbar) 0 ∅ 0 ∗ cred (tallyAt (cell c kbar) () (dut c kbar).card))
    ∗ (dutyTok ER (cell (tgt true true c) kbar) 0 0 ∗ dutyTok ER (cell (tgt false false c) kbar) 0 1 ∗ dutyTok ER (cell (tgt false true c) kbar) 0 2)
    ∗ (atPos ER (cell c kcp) 0 ∅ 0 ∗ dutyTok ER (cell c kcp) 0 0)
    ∗ ((seeds (F := F) true true c ∗ seeds (F := F) true false c) ∗ seeds (F := F) false true c ∗ seeds (F := F) false false c)
    ∗ (dues (F := F) true c ∗ dues (F := F) false c) ∗ (ydues (F := F) true c ∗ ydues (F := F) false c))

/-- A stream with the room it will fill is ready to be sent. -/
theorem seeds_rooms (h b : Bool) (c : Dev nD) :
    iprop(seeds (F := F) h b c ∗ rooms (F := F) h b c) ⊢ bigSep (Finset.range 12) (unsent (F := F) h b c) := by
  unfold seeds rooms
  rw [← bigSep_sep']
  refine bigSep_mono fun t _ => (show iprop(seed (F := F) h b c t ∗ room (F := F) h b c t) ⊢ unsent (F := F) h b c t from ?_)
  unfold seed unsent
  iintro ⟨⟨Ha, Ht, Ht'⟩, Hr⟩
  isplitl [Ha]; · iexact Ha
  isplitl [Ht]; · iexact Ht
  isplitl [Ht']; · iexact Ht'
  iexact Hr

/-- A direction at its start. -/
theorem dir_start (b : Bool) (c : Dev nD) :
    iprop(bigSep (Finset.range 12) (unsent (F := F) false b c) ∗ bigSep (Finset.range 12) (unsent (F := F) true b c) ∗ ydues (F := F) b c
        ∗ bigSep (Finset.range 4) (src m false b c)) ⊢ Dir m b c 0 0 := by
  unfold Dir ydues
  rw [← Finset.range_eq_Ico, ← Finset.range_eq_Ico, bigSep_sep', Finset.range_zero, bigSep_empty, bigSep_empty]
  iintro ⟨Hy, Hx, Hd, Hs⟩
  isplitl [Hy]; · iexact Hy
  isplitr; · iempintro
  isplitl [Hs]; · iexact Hs
  isplitl
  · isplitl [Hd]; · iexact Hd
    iexact Hx
  iempintro

theorem barPay_one (g : Dev nD) : rooms (F := F) false true g = barPay (F := F) g 1 := by
  unfold barPay; rw [if_neg (by decide), if_pos rfl]
theorem barPay_two (g : Dev nD) : rooms (F := F) false false g = barPay (F := F) g 2 := by
  unfold barPay; rw [if_neg (by decide), if_neg (by decide)]

/-- Signalling a device's barrier, with what that unit hands over. -/
theorem signal {c : Dev nD} (g : Dev nD) (d : Fin 3) (hd : sig3 g d = true) (O : CellTallies nD τ sig Unit)
    {n : Dev nD} (hn : n = g) {s : Sem sig} (hs : s = (0 : Fin 1)) {α : Type} {k : PUnit → PP (F := F) α} {Q : α → sProp 𝕄} :
    iprop(per m K ∗ dutyTok ER (cell g kbar) 0 d ∗ barPay (F := F) g d ∗ owing (F := F) c (O + unit g d))
      ⊢ iprop((owing (F := F) c O -∗ WP c (k ⟨⟩) Q) -∗ WP c (.op (.semSignal (Dev.tc n : Thread nD τ) s (1#32).toInt) k) Q) := by
  subst hn hs
  unfold per owing unit
  rw [if_pos hd]
  iintro ⟨⟨#HR, -⟩, Htok, Hpay, ⟨%W, HO⟩⟩ Hk
  ihave #HI := (recs_at m K (n, kbar)) $$ HR
  icases HI with ⟨#Hi, #Hr⟩
  iapply (Rounds.wp_signal 𝒱₀ ER (Rd m) (c : Thread nD τ) none (dst := (n : Thread nD τ)) (κ := K (n, kbar)) (r := 0) (d := d) (k' := 1)
      (by show d ∈ (Rd m).duties (cell n kbar) 0; rw [duties_cell]; exact Finset.mem_filter.mpr ⟨Finset.mem_univ _, hd⟩)
      (amount_cell m n kbar 0 d) () O rfl) $$ [HO Htok Hpay]
  · isplitr; · iexact Hi
    isplitl [HO]; · iexact HO
    isplitl [Htok]; · iexact Htok
    isplitl [Hpay]
    · iapply (Entails.of_eq (show barPay (F := F) n d = (Rd m).payload ((n : Thread nD τ), SemLoc.reg 0) 0 d from (payload_cell m n kbar 0 d).symm))
      iexact Hpay
    iexact Hr
  iintro HO
  iapply Hk
  iexists W; iexact HO

/-- A conditional that signals a neighbour's barrier. -/
theorem signal_if {c : Dev nD} (g : Dev nD) (d : Fin 3) (O : CellTallies nD τ sig Unit) {cd : BitVec 1} (hcd : cd = 1#1 ↔ sig3 g d = true)
    {n : cd = 1#1 → Dev nD} (hn : ∀ h, n h = g) {s : Sem sig} (hs : s = (0 : Fin 1)) {α : Type} {p : cd = 1#1 → PP (F := F) α} {q : ¬ cd = 1#1 → PP (F := F) α}
    {k : PP (F := F) α} {Q : α → sProp 𝕄} (hp : ∀ h, p h = .op (.semSignal (Dev.tc (n h) : Thread nD τ) s (1#32).toInt) fun _ => k) (hq : ∀ h, q h = k) :
    iprop(per m K ∗ dutyTok ER (cell g kbar) 0 d ∗ barPay (F := F) g d ∗ owing (F := F) c (O + unit g d))
      ⊢ iprop((owing (F := F) c O -∗ WP c k Q) -∗ WP c (dite (cd = 1#1) p q) Q) := by
  by_cases h : cd = 1#1
  · rw [dif_pos h, hp h]
    exact signal m K (c := c) g d (hcd.mp h) O (hn h) hs (k := fun _ => k) (Q := Q)
  · rw [dif_neg h, hq h]
    unfold unit
    rw [if_neg fun e => h (hcd.mpr e), add_zero]
    iintro ⟨-, -, -, HO⟩ Hk
    iapply Hk
    iexact HO

/-- Waiting for the barrier: all the room a device's copies need. -/
theorem wait_bar {c : Dev nD} (O : CellTallies nD τ sig Unit) (hO : Above 0 O) {w : ℤ} (hw : w = ((dut c kbar).card : ℤ)) {s : Sem sig} (hs : s = (0 : Fin 1))
    {α : Type} {k : PUnit → PP (F := F) α} {Q : α → sProp 𝕄} :
    iprop(per m K ∗ (atPos ER (cell c kbar) 0 ∅ 0 ∗ cred (tallyAt (cell c kbar) () (dut c kbar).card)) ∗ owing (F := F) c O)
      ⊢ iprop(((semVal (cell c kbar) 0 ∗ (rooms (F := F) true true c ∗ rooms (F := F) true false c ∗ rooms (F := F) false true c ∗ rooms (F := F) false false c)
            ∗ owing (F := F) c O) -∗ WP c (k ⟨⟩) Q)
          -∗ WP c (.op (.semWait s w) k) Q) := by
  subst hs hw
  unfold per owing
  iintro ⟨⟨#HR, #Hlev⟩, ⟨Hat, Hc⟩, ⟨%W, HO⟩⟩ Hk
  ihave #HI := (recs_at m K (c, kbar)) $$ HR
  icases HI with ⟨#Hi, -⟩
  iapply (Rounds.wp_wait_rest_token 𝒱₀ ER (Rd m) (c : Thread nD τ) none (κ := K (c, kbar)) (sm := csem kbar) (k' := (dut c kbar).card)
      (fun KK => wpE_semWait_eq 𝒱₀ (c : Thread nD τ) none Set.univ KK) (Set.mem_univ _) () (O := O) (W := W) (R := 0) (m := 0) (T := ∅)
      (by rw [expect_cell, Nat.zero_add]; exact (Nat.mul_one _).symm)) $$ [Hat Hc HO]
  · isplitr; · iexact Hi
    isplitl [Hc]; · iexact Hc
    isplitl [HO]; · iexact HO
    isplitr; · iapply (mayWait c kbar O hO); iexact Hlev
    iexact Hat
  iintro ⟨HO, Hat, -, Hpay⟩
  ihave Hp := (rest_bar m c) $$ Hpay
  imod (Rounds.cell_close ER (Rd m) (Set.mem_univ (K (c, kbar))) (fun h => h) (R := 0 + 1) (duties_later m _)) $$ [Hat] with Hz
  · isplitr; · iexact Hi
    iexact Hat
  iapply Hk
  isplitl [Hz]; · iexact Hz
  isplitl [Hp]; · iexact Hp
  iexists _; iexact HO

/-- Starting the local copy. -/
theorem start_copy {c : Dev nD} {q : DmaSem sig} (hq : q = (0 : Fin 97)) {off : Fin 2 → ℕ} {inb} (hoff : off = ![4096 * cy c, 0])
    {hw1 : (Memref.whole main_arg0 : Memref sig .tc .hbm S4096x1024 .f32).view.WordExact} {hw2 : (cmem off inb).view.WordExact}
    {hty : DmaTarget.Typed .hbm (.dma q) (.here (cmem off inb) : DmaTarget nD τ sig .tc .hbm S4096x1024 .f32)} (f : Buf (Elt F) (oloc c))
    {α : Type} {k : PUnit → PP (F := F) α} {Q : α → sProp 𝕄} :
    iprop(per m K ∗ dutyTok ER (cell c kcp) 0 0 ∗ (xloc c ↦[Finset.univ]{fullShare.left} m (xloc c)) ∗ (oloc c ↦[chunk (cy c)]{fullShare} f))
      ⊢ iprop((cred (tallyAt (cell c kcp) () NC) -∗ WP c (k ⟨⟩) Q)
          -∗ WP c (.op (.enqueueDma (Memref.whole main_arg0) (.here (cmem off inb)) (.dma q) hw1 hw2 hty) k) Q) := by
  subst hq
  unfold per
  iintro ⟨⟨#HR, -⟩, Htok, Hx, Ho⟩ Hk
  ihave #HI := (recs_at m K (c, kcp)) $$ HR
  icases HI with ⟨#Hi, #Hr⟩
  ihave Hx := (Entails.of_eq (show (xloc c ↦[Finset.univ]{fullShare.left} m (xloc c) : sProp 𝕄)
      = (xloc c ↦[(Memref.whole main_arg0 : Memref sig .tc .hbm S4096x1024 .f32).view.set]{fullShare.left} m (xloc c) : sProp 𝕄) by rw [View.set_whole])) $$ Hx
  ihave Ho := (Entails.of_eq (show (oloc c ↦[chunk (cy c)]{fullShare} f : sProp 𝕄)
      = (oloc c ↦[(cmem off inb).view.set]{fullShare} f : sProp 𝕄) by rw [cmem_set _ off inb hoff])) $$ Ho
  iapply (Rounds.wp_copy_pointsTo 𝒱₀ ER (Rd m) (c : Thread nD τ) none (κ := K (c, kcp)) (src := Memref.whole main_arg0) (dst := cmem off inb)
      (sem := csem kcp) (q := fullShare.left) (fs := m (xloc c)) (fd := f) (r := 0) (d := 0)
      (by show _ ∈ (Rd m).duties (cell c kcp) 0; rw [duties_cell]; exact Finset.mem_singleton_self _)
      () NC (credit_chunk off inb) (amount_cell m c kcp 0 0)
      (by
        show _ ⊢ (Rd m).payload (cell c kcp) 0 0
        rw [payload_cell]
        exact land_copy m c off inb hoff f)) $$ [Hx Ho Htok]
  · isplitr; · iexact Hi
    isplitl [Hx]; · iexact Hx
    isplitl [Ho]; · iexact Ho
    isplitl [Htok]; · iexact Htok
    iexact Hr
  iexact Hk

theorem dev1 (c : Dev nD) : (⟨k0_dev1 c, facts.k0_dev1_lt c⟩ : Dev nD) = tgt true true c := by
  have h : ∀ c : Dev nD, k0_dev1 c = (tgt true true c).val := by decide +kernel
  exact Fin.ext (h c)
theorem dev2 (c : Dev nD) (h : k0_cond1 c = 1#1) : (⟨k0_dev2 c, facts.k0_dev2_lt c h⟩ : Dev nD) = tgt false false c := by
  have e : ∀ c : Dev nD, k0_cond1 c = 1#1 → k0_dev2 c = (tgt false false c).val := by decide +kernel
  exact Fin.ext (e c h)
theorem dev3 (c : Dev nD) (h : k0_cond2 c = 1#1) : (⟨k0_dev3 c, facts.k0_dev3_lt c h⟩ : Dev nD) = tgt false true c := by
  have e : ∀ c : Dev nD, k0_cond2 c = 1#1 → k0_dev3 c = (tgt false true c).val := by decide +kernel
  exact Fin.ext (e c h)
theorem cond1 (c : Dev nD) : k0_cond1 c = 1#1 ↔ sig3 (tgt false false c) 1 = true := by revert c; decide +kernel
theorem cond2 (c : Dev nD) : k0_cond2 c = 1#1 ↔ sig3 (tgt false true c) 2 = true := by revert c; decide +kernel
theorem amt1 (c : Dev nD) : (k0_amt1 c).toInt = ((dut c kbar).card : ℤ) := by revert c; decide +kernel
theorem off1 (c : Dev nD) : k0_off1 c = ![4096 * cy c, 0] := by revert c; decide +kernel

/-- From the start to the first phase. -/
theorem part49 {c : Dev nD} (f : Buf (Elt F) (oloc c))
    {Q : (Σ' (d0 : Dev nD) (v2 : BitVec 32) (v5 : BitVec 32) (v8 : BitVec 32) (v9 : BitVec 32) (v10 : BitVec 32) (v11 : BitVec 32) (v12 : BitVec 1) (v13 : BitVec 1), BitVec 32) → sProp 𝕄}
    (hk : ∀ v2 v5 v8 v9 v10 v11 v12 v13 w, St1 m K (Keep1 m c) true c 0 0 0 0 ⊢ Q ⟨c, v2, v5, v8, v9, v10, v11, v12, v13, w⟩) :
    iprop(Start m c f ∗ per m K ∗ owing (F := F) c (O₀ c))
      ⊢ WP c (k0_part49 (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8) Q := by
  rw [k0_part49_eq_skeleton]
  unfold k0_part49_skel Start O₀
  rw [arg_take]
  simp only [semSignalWord, semWaitWord, Prog.lift, Prog.bind_op, Prog.bind_ret, Prog.pure_eq_ret, wp_deviceId]
  iintro ⟨⟨⟨Hx, ⟨Hs, Hi⟩, Hs', Hi'⟩, Ho, Hbar, ⟨Ht0, Ht1, Ht2⟩, ⟨Hcp, Htc⟩, ⟨⟨Hse, Hse'⟩, Hsy, Hsy'⟩, ⟨Hd, Hd'⟩, Hy, Hy'⟩, #HP, HO⟩
  ihave Ho := (out_rooms c f) $$ Ho
  icases Ho with ⟨Hch, ⟨Hr1, Hr2⟩, Hr3, Hr4⟩
  iapply (signal m K (tgt true true c) 0 rfl _ (dev1 c) rfl) $$ [Ht0 Hr1 Hr2 HO]
  · isplitr; · iexact HP
    isplitl [Ht0]; · iexact Ht0
    isplitl [Hr1 Hr2]
    · unfold barPay
      rw [if_pos rfl]
      isplitl [Hr1]; · iexact Hr1
      iexact Hr2
    iexact HO
  iintro HO
  iapply (signal_if m K (tgt false false c) 1 _ (cond1 c) (dev2 c) rfl (fun _ => rfl) (fun _ => rfl)) $$ [Ht1 Hr3 HO]
  · isplitr; · iexact HP
    isplitl [Ht1]; · iexact Ht1
    isplitl [Hr3]; · iapply (Entails.of_eq (barPay_one (F := F) _)); iexact Hr3
    iexact HO
  iintro HO
  iapply (signal_if m K (tgt false true c) 2 _ (cond2 c) (dev3 c) rfl (fun _ => rfl) (fun _ => rfl)) $$ [Ht2 Hr4 HO]
  · isplitr; · iexact HP
    isplitl [Ht2]; · iexact Ht2
    isplitl [Hr4]; · iapply (Entails.of_eq (barPay_two (F := F) _)); iexact Hr4
    iexact HO
  iintro HO
  iapply (wait_bar m K _ (Above.add (debt_above true c 0 0 0 (by decide) (by decide)) (debt_above (!true) c 0 0 0 (by decide) (by decide))) (amt1 c) rfl) $$ [Hbar HO]
  · isplitr; · iexact HP
    isplitl [Hbar]; · iexact Hbar
    iexact HO
  iintro ⟨Hb, ⟨Hr1, Hr2, Hr3, Hr4⟩, HO⟩
  iapply (start_copy m K rfl (off1 c) f) $$ [Htc Hx Hch]
  · isplitr; · iexact HP
    isplitl [Htc]; · iexact Htc
    isplitl [Hx]; · iexact Hx
    iexact Hch
  iintro Hc
  iapply (finish rfl (hk _ _ _ _ _ _ _ _ _))
  unfold St1 Keep1
  isplitl [Hi Hi' Hb Hcp Hc Hd Hd']
  · isplitl [Hi Hi']
    · isplitl [Hi]; · iexact Hi
      iexact Hi'
    isplitl [Hb]; · iexact Hb
    isplitl [Hcp Hc]
    · isplitl [Hcp]; · iexact Hcp
      iexact Hc
    isplitl [Hd]; · iexact Hd
    iexact Hd'
  isplitr; · iexact HP
  isplitl [Hsy Hse Hr1 Hr3 Hy Hs]
  · iapply (dir_start m true c)
    isplitl [Hsy Hr3]
    · iapply (seeds_rooms false true c)
      isplitl [Hsy]; · iexact Hsy
      iexact Hr3
    isplitl [Hse Hr1]
    · iapply (seeds_rooms true true c)
      isplitl [Hse]; · iexact Hse
      iexact Hr1
    isplitl [Hy]; · iexact Hy
    iexact Hs
  isplitr [HO]
  · iapply (dir_start m false c)
    isplitl [Hsy' Hr4]
    · iapply (seeds_rooms false false c)
      isplitl [Hsy']; · iexact Hsy'
      iexact Hr4
    isplitl [Hse' Hr2]
    · iapply (seeds_rooms true false c)
      isplitl [Hse']; · iexact Hse'
      iexact Hr2
    isplitl [Hy']; · iexact Hy'
    iexact Hs'
  iexact HO

end Cert.Gather
-- ==== Proof.Body.lean ====
/-
The body of the kernel, from what a device starts with to what it ends with.
-/
module

public import proofs.«01_k».proof.Proof.Start

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- One program after another. -/
theorem seq {P : sProp 𝕄} {c : Dev nD} {α β : Type} {p : PP (F := F) α} {f : α → PP (F := F) β} {Q : β → sProp 𝕄}
    (h : P ⊢ WP c p fun a => WP c (f a) Q) : P ⊢ WP c (p >>= f) Q := by
  unfold WP at *
  rw [wp_bind]
  exact h

/-- The whole body. -/
theorem body_runs (c : Dev nD) (f : Buf (Elt F) (oloc c)) {Q : PUnit → sProp 𝕄}
    (hk : iprop(Final m c ∗ owing (F := F) c 0) ⊢ Q ⟨⟩) :
    iprop(Start m c f ∗ per m K ∗ owing (F := F) c (O₀ c))
      ⊢ WP c (cc0_body (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8) Q := by
  have hend : St2 m K (Keep2 m c) true c 12 12 12 12 ⊢ Q ⟨⟩ := by
    refine BI.Entails.trans (show _ ⊢ iprop(Final m c ∗ owing (F := F) c 0) from ?_) hk
    unfold St2
    iintro ⟨HK, -, HF, HF', HO⟩
    isplitr [HO]
    · iapply (final m c)
      isplitl [HK]; · iexact HK
      isplitl [HF]; · iexact HF
      iexact HF'
    iexact HO
  rw [cc0_body_eq_skeleton]
  unfold cc0_body_skel
  refine seq (part49 m K f fun v2 v5 v8 v9 v10 v11 v12 v13 w => ?_)
  refine seq (part50 m K v2 v5 v8 v9 v10 v11 v12 v13 w fun v64 => ?_)
  refine seq (part51 m K v2 v5 v8 v9 v10 v11 v12 v13 v64 fun ⟨v97, w⟩ => ?_)
  refine seq (part52 m K v2 v5 v8 v9 v10 v11 v12 v13 v97 w fun v131 => ?_)
  refine seq (part53 m K v2 v5 v8 v9 v10 v11 v12 v13 v131 fun v165 => ?_)
  refine seq (part54 m K v2 v5 v8 v9 v10 v11 v12 v13 v165 fun v198 => ?_)
  refine seq (part55 m K v2 v5 v8 v9 v10 v11 v12 v13 v198 fun v232 => ?_)
  refine seq (part56 m K v2 v5 v8 v9 v10 v11 v12 v13 v232 fun w => ?_)
  refine seq (part57 m K v2 v5 v8 v9 v12 v13 w fun v298 => ?_)
  refine seq (part58 m K v2 v5 v8 v9 v12 v13 v298 fun ⟨v331, w⟩ => ?_)
  refine seq (part59 m K v2 v5 v8 v9 v12 v13 v331 w fun v365 => ?_)
  refine seq (part60 m K v2 v5 v8 v9 v12 v13 v365 fun ⟨v398, w⟩ => ?_)
  refine seq (part61 m K v2 v5 v8 v9 v12 v13 v398 w fun v432 => ?_)
  refine seq (part62 m K v2 v5 v8 v9 v12 v13 v432 fun v466 => ?_)
  refine step_ywait m K (fun _ => rfl) (fun _ => rfl) (fun _ => credit_piece _ _) ?_
  refine step_xwait m K (fun _ => rfl) (fun _ => rfl) (fun _ => credit_piece _ _) (fun _ => credit_piece _ _) ?_
  refine step_xwait m K (fun _ => rfl) (fun _ => rfl) (fun _ => credit_piece _ _) (fun _ => credit_piece _ _) ?_
  refine step_ywait m K (fun _ => rfl) (fun _ => rfl) (fun _ => credit_piece _ _) ?_
  refine step_ywait m K (fun _ => rfl) (fun _ => rfl) (fun _ => credit_piece _ _) ?_
  exact finish rfl hend

end Cert.Gather
-- ==== Proof.Credit.lean ====
/-
The credits of the launch: what all devices together owe a device's semaphores is what that device will wait for, a
piece's size on the receive cell of every piece it gets and a unit for each device that signals its barrier.
-/
module

public import proofs.«01_k».proof.Proof.Body

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem tally_cell (d c : Dev nD) (k k' : Key) (n : ℕ) : tallyAt (cell d k) () n (cell c k') () = if d = c ∧ k = k' then n else 0 := by
  rw [tallyAt_apply]
  by_cases e : d = c ∧ k = k'
  · rw [if_pos e, e.1, e.2, if_pos ⟨rfl, rfl⟩]
  · rw [if_neg e, if_neg]
    rintro ⟨h, -⟩
    exact e ⟨(cell_inj h).1.symm, (cell_inj h).2.symm⟩

theorem pc_self (t : Fin 12) : pc t.val = t := Fin.ext (pc_val t.isLt)

theorem tgt_iff (h b : Bool) (d c : Dev nD) : tgt h b d = c ↔ d = tgt h (!b) c :=
  ⟨fun e => by rw [← e, tgt_tgt], fun e => by rw [e, tgt_tgt']⟩

/-- What a stream of device `d` owes a receive cell. -/
theorem obs_piece (h' b' h b : Bool) (d c : Dev nD) (t : Fin 12) :
    obs h' b' d 0 (cell c (kp h b true t)) () = if (h' = h ∧ b' = b) ∧ d = tgt h (!b) c then (if got h b c t.val then NP else 0) else 0 := by
  have one : ∀ n ∈ Finset.Ico 0 12, ob h' b' d n (cell c (kp h b true t)) ()
      = if n = t.val then (if (h' = h ∧ b' = b) ∧ d = tgt h (!b) c then (if got h b c t.val then NP else 0) else 0) else 0 := fun n hn => by
    have hn := (Finset.mem_Ico.mp hn).2
    have hk : kp h' b' true (pc n) = kp h b true t ↔ (h' = h ∧ b' = b) ∧ n = t.val := by
      simp only [kp, Sum.inr.injEq, Prod.mk.injEq, true_and, and_assoc, Fin.ext_iff, pc_val hn]
    unfold ob
    by_cases e : ((h' = h ∧ b' = b) ∧ d = tgt h (!b) c) ∧ n = t.val
    · obtain ⟨⟨⟨rfl, rfl⟩, rfl⟩, rfl⟩ := e
      unfold got
      split
      · rw [tally_cell, if_pos ⟨tgt_tgt' _ _ _, hk.mpr ⟨⟨rfl, rfl⟩, rfl⟩⟩]
        simp only [and_self, if_true]
      · simp only [and_self, if_true]; rfl
    · have z : (if n = t.val then (if (h' = h ∧ b' = b) ∧ d = tgt h (!b) c then (if got h b c t.val then NP else 0) else 0) else 0) = 0 := by
        by_cases e' : n = t.val
        · rw [if_pos e', if_neg fun e'' => e ⟨e'', e'⟩]
        · rw [if_neg e']
      rw [z]
      split
      · rw [tally_cell, if_neg]
        rintro ⟨h1, h2⟩
        obtain ⟨⟨rfl, rfl⟩, h3⟩ := hk.mp h2
        exact e ⟨⟨⟨rfl, rfl⟩, (tgt_iff _ _ _ _).mp h1⟩, h3⟩
      · rfl
  unfold obs
  rw [Finset.sum_apply, Finsupp.finset_sum_apply, Finset.sum_congr rfl one, Finset.sum_ite_eq', if_pos (Finset.mem_Ico.mpr ⟨Nat.zero_le _, t.isLt⟩)]

theorem obs_bar (h b : Bool) (d c : Dev nD) : obs h b d 0 (cell c kbar) () = 0 := by
  unfold obs
  rw [Finset.sum_apply, Finsupp.finset_sum_apply]
  refine Finset.sum_eq_zero fun n _ => ?_
  unfold ob
  split
  · rw [tally_cell, if_neg fun e => by cases e.2]
  · rfl

theorem unit_piece (g c : Dev nD) (j : Fin 3) (h b : Bool) (t : Fin 12) : unit g j (cell c (kp h b true t)) () = 0 := by
  unfold unit
  split
  · rw [tally_cell, if_neg fun e => by cases e.2]
  · rfl

theorem unit_bar (h b : Bool) (d c : Dev nD) (j : Fin 3) :
    unit (tgt h b d) j (cell c kbar) () = if d = tgt h (!b) c then (if sig3 c j then 1 else 0) else 0 := by
  unfold unit
  by_cases e : d = tgt h (!b) c
  · rw [if_pos e, (tgt_iff h b d c).mpr e]
    split
    · rw [tally_cell, if_pos ⟨rfl, rfl⟩]
    · rfl
  · rw [if_neg e]
    split
    · rw [tally_cell, if_neg fun e' => e ((tgt_iff h b d c).mp e'.1)]
    · rfl

/-- All that is owed a receive cell. -/
theorem owed_piece (h b : Bool) (c : Dev nD) (t : Fin 12) :
    ∑ d : Dev nD, O₀ d (cell c (kp h b true t)) () = if got h b c t.val then NP else 0 := by
  have one : ∀ d : Dev nD, O₀ d (cell c (kp h b true t)) () = if d = tgt h (!b) c then (if got h b c t.val then NP else 0) else 0 := fun d => by
    unfold O₀ debt
    simp only [Pi.add_apply, Finsupp.add_apply, unit_piece, obs_piece]
    cases h <;> cases b <;> simp
  rw [Finset.sum_congr rfl fun d _ => one d, Finset.sum_ite_eq', if_pos (Finset.mem_univ _)]

theorem dut_bar (c : Dev nD) : (dut c kbar).card = (if sig3 c 2 then 1 else 0) + (if sig3 c 1 then 1 else 0) + (if sig3 c 0 then 1 else 0) := by
  revert c; decide +kernel

/-- All that is owed a barrier. -/
theorem owed_bar (c : Dev nD) : ∑ d : Dev nD, O₀ d (cell c kbar) () = (dut c kbar).card := by
  have one : ∀ d : Dev nD, O₀ d (cell c kbar) () = (if d = tgt false (!true) c then (if sig3 c 2 then 1 else 0) else 0)
      + (if d = tgt false (!false) c then (if sig3 c 1 then 1 else 0) else 0) + (if d = tgt true (!true) c then (if sig3 c 0 then 1 else 0) else 0) := fun d => by
    unfold O₀ debt
    simp only [Pi.add_apply, Finsupp.add_apply, unit_bar, obs_bar, zero_add]
  rw [Finset.sum_congr rfl fun d _ => one d, Finset.sum_add_distrib, Finset.sum_add_distrib, Finset.sum_ite_eq', Finset.sum_ite_eq', Finset.sum_ite_eq',
    if_pos (Finset.mem_univ _), if_pos (Finset.mem_univ _), if_pos (Finset.mem_univ _), dut_bar]

theorem credit_cell (c : Dev nD) (k : Key) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt
  refine congrArg _ (Finsupp.ext fun u => ?_)
  cases u
  rw [Pipeline.launchCredit_owing, h, Finsupp.single_eq_same]

/-! ## Something for every key -/

/-- The keys as semaphores. -/
def csemE : Key ↪ SemLoc sig := ⟨csem, fun k k' h => by rw [← key_csem k, h, key_csem]⟩

/-- Something for every piece of either side. -/
theorem over_sides (Φ : Bool → Bool → Bool → Fin 12 → sProp 𝕄) :
    bigSep Finset.univ (fun p : Bool × Bool × Bool × Fin 12 => Φ p.1 p.2.1 p.2.2.1 p.2.2.2)
      = iprop((bigSep Finset.univ fun p : Piece => Φ p.1 p.2.1 true p.2.2) ∗ bigSep Finset.univ fun p : Piece => Φ p.1 p.2.1 false p.2.2) := by
  rw [← bigSep_sep', bigSep_univ_prod, bigSep_univ_prod]
  refine bigSep_congr fun h _ => ?_
  rw [bigSep_univ_prod, bigSep_univ_prod]
  refine bigSep_congr fun b _ => ?_
  rw [bigSep_univ_prod, over_two, bigSep_sep']

/-- Something for every key. -/
theorem over_keys (Φ : Key → sProp 𝕄) :
    bigSep Finset.univ Φ = iprop(Φ kbar ∗ Φ kcp ∗ (bigSep Finset.univ fun p : Piece => Φ (kp p.1 p.2.1 true p.2.2))
      ∗ bigSep Finset.univ fun p : Piece => Φ (kp p.1 p.2.1 false p.2.2)) := by
  rw [bigSep_univ_sum, bigSep_univ_sum, ← over_sides (fun h b r t => Φ (kp h b r t)), Finset.univ_unique, bigSep_singleton, bigSep_singleton]
  rfl

/-- A device's credits at the launch. -/
theorem credits (c : Dev nD) : (Pipeline.launchCred O₀ c : sProp 𝕄)
    ⊢ iprop(cred (tallyAt (cell c kbar) () (dut c kbar).card)
      ∗ bigSep Finset.univ fun p : Piece => if got p.1 p.2.1 c p.2.2.val = true then cred (tallyAt (cell c (kp p.1 p.2.1 true p.2.2)) () NP) else iprop(emp)) := by
  classical
  unfold Pipeline.launchCred
  rw [bigSep_sdiff_split (Finset.subset_univ (Finset.univ.map csemE)), bigSep_map, over_keys]
  refine (show iprop((_ ∗ _ ∗ _ ∗ _) ∗ _) ⊢ _ from ?_)
  iintro ⟨⟨Hb, -, Hp, -⟩, -⟩
  isplitl [Hb]
  · rw [show csemE kbar = csem kbar from rfl, credit_cell c kbar _ (owed_bar c)]
    iexact Hb
  iapply (show (bigSep Finset.univ fun p : Piece => cred (tallyOn ((c.tc : Thread nD τ), csemE (kp p.1 p.2.1 true p.2.2))
        (launchCredit (Pipeline.owing O₀) 0 ((c.tc : Thread nD τ), csemE (kp p.1 p.2.1 true p.2.2)))) : sProp 𝕄)
      ⊢ bigSep Finset.univ fun p : Piece => if got p.1 p.2.1 c p.2.2.val = true then cred (tallyAt (cell c (kp p.1 p.2.1 true p.2.2)) () NP) else iprop(emp) from
    bigSep_mono fun p _ => by
      rw [show csemE (kp p.1 p.2.1 true p.2.2) = csem (kp p.1 p.2.1 true p.2.2) from rfl, credit_cell c _ _ (owed_piece p.1 p.2.1 c p.2.2)]
      split
      · exact (show (cred (tallyAt (cell c (kp p.1 p.2.1 true p.2.2)) () NP) : sProp 𝕄) ⊢ cred (tallyAt (cell c (kp p.1 p.2.1 true p.2.2)) () NP) from Entails.of_eq rfl)
      · exact (show (cred (tallyAt (cell c (kp p.1 p.2.1 true p.2.2)) () 0) : sProp 𝕄) ⊢ iprop(emp) from by iintro -; iempintro))
  iexact Hp

end Cert.Gather
-- ==== Proof.Deal.lean ====
/-
The launch deals each device what its body starts with. Every semaphore's invariant is made once, for all to know;
every duty's token goes to the device that does the duty.
-/
module

public import proofs.«01_k».proof.Proof.Credit

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is minted -/

/-- Every key's cell on every device. -/
def cells : Finset (GSem nD τ sig) :=
  Finset.univ.map ⟨fun ck : Dev nD × Key => cell ck.1 ck.2, fun a b h => Prod.ext (cell_inj h).1 (cell_inj h).2⟩

/-- The duties of a device's cells: three at its barrier, one at each other cell. -/
abbrev Duty : Type := Fin 3 ⊕ Unit ⊕ (Bool × Bool × Bool × Fin 12)

def dkey : Duty → Key × Fin 3
  | .inl d => (kbar, d)
  | .inr k => (.inr k, 0)

theorem dkey_inj {j j' : Duty} (h : dkey j = dkey j') : j = j' := by
  rcases j with d | k <;> rcases j' with d' | k' <;> simp only [dkey, kbar, Prod.mk.injEq, reduceCtorEq, false_and, true_and, and_true, Sum.inr.injEq] at h
  · rw [h]
  · rw [h]

def tokens : Finset (GSem nD τ sig × ℕ × Fin 3) :=
  Finset.univ.map ⟨fun cj : Dev nD × Duty => (cell cj.1 (dkey cj.2).1, 0, (dkey cj.2).2), fun a b h => by
    have h1 := cell_inj (congrArg Prod.fst h)
    exact Prod.ext h1.1 (dkey_inj (Prod.ext h1.2 (congrArg (fun x : GSem nD τ sig × ℕ × Fin 3 => x.2.2) h)))⟩

def u₀ : UU := (initOf (Pipeline.cells cfgs cellOf_inj) (Pipeline.launchToks cfgs cellOf_inj), initOf cells tokens)

/-- The token of a cell's duty. -/
abbrev tk (c : Dev nD) (k : Key) (d : Fin 3) : sProp 𝕄 := dutyTok ER (cell c k) 0 d

/-- Something for every piece. -/
abbrev each (Φ : Bool → Bool → Fin 12 → sProp 𝕄) : sProp 𝕄 := bigSep Finset.univ fun p : Piece => Φ p.1 p.2.1 p.2.2

/-- The tokens of a device's own cells. -/
def minted (c : Dev nD) : sProp 𝕄 :=
  iprop((tk c kbar 0 ∗ tk c kbar 1 ∗ tk c kbar 2) ∗ tk c kcp 0
    ∗ each (fun h b t => tk (F := F) c (kp h b true t) 0) ∗ each (fun h b t => tk (F := F) c (kp h b false t) 0))

/-- The tokens of the duties a device does. -/
def handed (c : Dev nD) : sProp 𝕄 :=
  iprop((tk (tgt true true c) kbar 0 ∗ tk (tgt false false c) kbar 1 ∗ tk (tgt false true c) kbar 2) ∗ tk c kcp 0
    ∗ each (fun h b t => tk (F := F) (tgt h b c) (kp h b true t) 0) ∗ each (fun h b t => tk (F := F) c (kp h b false t) 0))

theorem over_duties (Φ : Duty → sProp 𝕄) :
    bigSep Finset.univ Φ = iprop((Φ (.inl 0) ∗ Φ (.inl 1) ∗ Φ (.inl 2)) ∗ Φ (.inr (.inl ()))
      ∗ each (fun h b t => Φ (.inr (.inr (h, b, true, t)))) ∗ each (fun h b t => Φ (.inr (.inr (h, b, false, t))))) := by
  rw [bigSep_univ_sum, bigSep_univ_sum, bigSep_univ_eq_bigSepL [(0 : Fin 3), 1, 2] (by decide) (by decide),
    ← over_sides (fun h b r t => Φ (.inr (.inr (h, b, r, t)))), Finset.univ_unique, bigSep_singleton]
  rfl

theorem minted_eq : bigSep tokens (fun x => (dutyTok ER x.1 x.2.1 x.2.2 : sProp 𝕄)) = bigSep Finset.univ fun c : Dev nD => minted (F := F) c := by
  unfold tokens
  rw [bigSep_map, bigSep_univ_prod]
  exact bigSep_congr fun c _ => by rw [over_duties]; rfl

theorem over_cells (Φ : GSem nD τ sig → sProp 𝕄) :
    bigSep cells Φ = bigSep Finset.univ fun c : Dev nD => bigSep Finset.univ fun k : Key => Φ (cell c k) := by
  unfold cells; rw [bigSep_map, bigSep_univ_prod]; rfl

/-- A token for every device, each at the cell of the device one step of a stream away. -/
theorem shift (h b : Bool) (Φ : Dev nD → sProp 𝕄) : bigSep Finset.univ Φ = bigSep Finset.univ fun c => Φ (tgt h b c) :=
  bigSep_univ_equiv (tgtE h b) Φ

theorem shift_each (Φ : Dev nD → Bool → Bool → Fin 12 → sProp 𝕄) :
    (bigSep Finset.univ fun c => each (Φ c)) = bigSep Finset.univ fun c => each fun h b t => Φ (tgt h b c) h b t := by
  unfold each
  rw [bigSep_univ_comm, bigSep_univ_comm (fun (c : Dev nD) (p : Piece) => Φ (tgt p.1 p.2.1 c) p.1 p.2.1 p.2.2)]
  exact bigSep_congr fun p _ => shift p.1 p.2.1 fun c => Φ c p.1 p.2.1 p.2.2

theorem handed_eq : (bigSep Finset.univ fun c : Dev nD => minted (F := F) c) = bigSep Finset.univ fun c : Dev nD => handed (F := F) c := by
  unfold minted handed
  rw [bigSep_sep', bigSep_sep', bigSep_sep', bigSep_sep', bigSep_sep', bigSep_sep', bigSep_sep', bigSep_sep', bigSep_sep', bigSep_sep',
    shift true true (fun c => tk (F := F) c kbar 0), shift false false (fun c => tk (F := F) c kbar 1), shift false true (fun c => tk (F := F) c kbar 2),
    shift_each fun c h b t => tk (F := F) c (kp h b true t) 0]

/-! ## What each device is dealt -/

/-- What a device is dealt first: its own cells' states and its own cells' tokens. -/
def First (c : Dev nD) : sProp 𝕄 :=
  iprop((bigSep Finset.univ fun k : Key => roundState ER (Rd m) (cell c k) 0) ∗ (bigSep Finset.univ fun k : Key => reached ER (cell c k) 0)
    ∗ (bigSep Finset.univ fun k : Key => atPos ER (cell c k) 0 ∅ 0) ∗ minted (F := F) c)

/-- What it has once the invariants are made and the tokens handed round. -/
def Dealt (c : Dev nD) : sProp 𝕄 :=
  iprop(∃ K, recs m K ∗ (bigSep Finset.univ fun k : Key => atPos ER (cell c k) 0 ∅ 0) ∗ handed (F := F) c)

theorem fund : BI.own (ER (initOf cells tokens)) ⊢ (|==> bigSep Finset.univ (First m) : sProp 𝕄) := by
  iintro HX
  imod (Rounds.fund ER (Rd m) cells tokens) $$ HX with ⟨Hst, Hr, Hat, Htok⟩
  imodintro
  ihave Hst := (Entails.of_eq (over_cells fun g => roundState ER (Rd m) g 0)) $$ Hst
  ihave Hr := (Entails.of_eq (over_cells (F := F) fun g => reached ER g 0)) $$ Hr
  ihave Hat := (Entails.of_eq (over_cells (F := F) fun g => atPos ER g 0 ∅ 0)) $$ Hat
  ihave Htok := (Entails.of_eq (minted_eq (F := F))) $$ Htok
  unfold First
  rw [bigSep_sep', bigSep_sep', bigSep_sep']
  isplitl [Hst]; · iexact Hst
  isplitl [Hr]; · iexact Hr
  isplitl [Hat]; · iexact Hat
  iexact Htok

/-- The semaphores of the body's own: all but the barrier. -/
abbrev OKey : Type := Unit ⊕ (Bool × Bool × Bool × Fin 12)
def osem (k : OKey) : SemLoc sig := csem (.inr k)

theorem osem_facts : Pipeline.OwnSemFacts cfg0.spec osem := by decide +kernel

abbrev own0 (c : Dev nD) : sProp 𝕄 := Pipeline.ownSems0 (Ix := Unit) (Name := ℕ) (U := UU) (Lvl := ℕ) (Val := Elt F) (τ := τ) osem c

theorem bar0 (c : Dev nD) : (unscopedSems0 c : sProp 𝕄) = semVal (cell c kbar) 0 := by
  unfold unscopedSems0
  rw [bigSep_eq_bigSepL_of_eq [SemLoc.reg 0] (by decide) (by decide)]
  rfl

theorem sems0 (c : Dev nD) : iprop(own0 (F := F) c ∗ unscopedSems0 c) ⊢ (bigSep Finset.univ fun k : Key => semVal (cell c k) 0 : sProp 𝕄) := by
  rw [bar0, bigSep_univ_sum, Finset.univ_unique, bigSep_singleton]
  refine (show _ ⊢ iprop(semVal (cell c kbar) 0 ∗ own0 (F := F) c) from ?_)
  iintro ⟨Ho, Hb⟩
  isplitl [Hb] <;> iassumption

/-- A device's cells and their states become invariants. -/
theorem make (c : Dev nD) : iprop(own0 (F := F) c ∗ unscopedSems0 c ∗ First m c)
    ⊢ |={Set.univ}=> iprop((bigSep Finset.univ fun k : Key => iprop(∃ κ : ℕ, cellInv ER (Rd m) κ (cell c k)))
      ∗ (bigSep Finset.univ fun k : Key => reached ER (cell c k) 0)
      ∗ (bigSep Finset.univ fun k : Key => atPos ER (cell c k) 0 ∅ 0) ∗ minted (F := F) c) := by
  have inv : iprop((bigSep Finset.univ fun k : Key => semVal (cell c k) 0) ∗ bigSep Finset.univ fun k : Key => roundState ER (Rd m) (cell c k) 0)
      ⊢ (|={Set.univ}=> bigSep Finset.univ fun k : Key => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold First
  iintro ⟨Ho, Hu, Hst, Hrest⟩
  ihave Hv := (sems0 (F := F) c) $$ [Ho Hu]
  · isplitl [Ho] <;> iassumption
  imod inv $$ [Hv Hst] with Hi
  · isplitl [Hv] <;> iassumption
  imodintro
  isplitl [Hi]; · iexact Hi
  iexact Hrest

/-- What lasts goes to every device. -/
theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  BI.Entails.trans (show _ ⊢ iprop((bigSep Finset.univ fun _ : Dev nD => R) ∗ bigSep Finset.univ Φ) from sep_mono_left (BI.bigSep_of_persistent Finset.univ R))
    (by rw [← bigSep_sep']; exact bigSep_mono fun c _ => h c)

theorem hand_round :
    (bigSep Finset.univ fun c : Dev nD => iprop((bigSep Finset.univ fun k : Key => iprop(∃ κ : ℕ, cellInv ER (Rd m) κ (cell c k)))
      ∗ (bigSep Finset.univ fun k : Key => reached ER (cell c k) 0)
      ∗ (bigSep Finset.univ fun k : Key => atPos ER (cell c k) 0 ∅ 0) ∗ minted (F := F) c) : sProp 𝕄)
      ⊢ bigSep Finset.univ (Dealt m) := by
  rw [bigSep_sep', bigSep_sep', bigSep_sep', handed_eq, ← bigSep_univ_prod (fun ck : Dev nD × Key => iprop(∃ κ : ℕ, cellInv ER (Rd m) κ (cell ck.1 ck.2))),
    ← bigSep_univ_prod (fun ck : Dev nD × Key => (reached ER (cell ck.1 ck.2) 0 : sProp 𝕄))]
  letI : DecidableEq (Dev nD × Key) := Classical.decEq _
  iintro ⟨Hi, Hr, Hat, Htok⟩
  ihave ⟨%K, Hi⟩ := (BI.bigSep_exists_pi Finset.univ fun (ck : Dev nD × Key) (κ : ℕ) => cellInv ER (Rd m) κ (cell ck.1 ck.2)) $$ Hi
  iapply (spread (R := recs m K) (Φ := fun c => iprop((bigSep Finset.univ fun k : Key => atPos ER (cell c k) 0 ∅ 0) ∗ handed (F := F) c)) (Ψ := Dealt m) fun c => by
    unfold Dealt
    iintro H
    iexists K
    iexact H)
  rw [bigSep_sep']
  isplitl [Hi Hr]
  · unfold recs
    rw [bigSep_sep']
    isplitl [Hi] <;> iassumption
  isplitl [Hat] <;> iassumption

theorem deal : (bigSep Finset.univ fun c : Dev nD => iprop(own0 (F := F) c ∗ unscopedSems0 c ∗ First m c))
    ⊢ |={Set.univ}=> bigSep Finset.univ (Dealt m) :=
  ((bigSep_mono fun c _ => make m c).trans (bigSep_fupd _ _)).trans (BI.fupd_mono (hand_round m))

end Cert.Gather
-- ==== Proof.Launch.lean ====
/-
The launch of the 32 kernels and the run of the whole program.
-/
module

public import proofs.«01_k».proof.Proof.Deal
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body's precondition -/

theorem seeds_eq (c : Dev nD) :
    iprop((seeds (F := F) true true c ∗ seeds (F := F) true false c) ∗ seeds (F := F) false true c ∗ seeds (F := F) false false c)
      = iprop(each (fun h b t => atPos ER (cell c (kp h b false t)) 0 ∅ 0) ∗ each (fun h b t => tk (F := F) c (kp h b false t) 0)
        ∗ each (fun h b t => tk (F := F) (tgt h b c) (kp h b true t) 0)) := by
  unfold seeds
  rw [← over_pieces fun h b t => seed h b c t, ← bigSep_sep', ← bigSep_sep']
  exact bigSep_congr fun p _ => by unfold seed; rw [pc_self]

theorem dues_eq (c : Dev nD) :
    iprop((dues (F := F) true c ∗ dues (F := F) false c) ∗ ydues (F := F) true c ∗ ydues (F := F) false c)
      = iprop(each (fun h b t => atPos ER (cell c (kp h b true t)) 0 ∅ 0)
        ∗ each fun h b t => if got h b c t.val = true then cred (tallyAt (cell c (kp h b true t)) () NP) else iprop(emp)) := by
  unfold dues ydues
  rw [← over_pieces fun h b t => due h b c t, ← bigSep_sep']
  exact bigSep_congr fun p _ => by unfold due; rw [pc_self]

theorem zeros_eq (c : Dev nD) :
    iprop((zeros (F := F) true true c ∗ zeros (F := F) true false c) ∗ zeros (F := F) false true c ∗ zeros (F := F) false false c)
      = iprop(each (fun h b t => semVal (cell c (kp h b true t)) 0) ∗ each fun h b t => semVal (cell c (kp h b false t)) 0) := by
  have z (h b : Bool) : zeros (F := F) h b c = bigSep (Finset.range 12) fun t => iprop(zero h b true c t ∗ zero h b false c t) := by
    unfold zeros; rw [← bigSep_sep']
  rw [z, z, z, z, ← over_pieces fun h b t => iprop(zero h b true c t ∗ zero h b false c t), ← bigSep_sep']
  exact bigSep_congr fun p _ => by unfold zero; rw [pc_self]

/-- What a device holds as its body starts. -/
def Begin (c : Dev nD) : sProp 𝕄 := iprop(∃ K, Start m c (m (oloc c)) ∗ per m K)

theorem begin_intro (c : Dev nD) :
    iprop((xloc c ↦[Finset.univ]{fullShare} m (xloc c)) ∗ (oloc c ↦[Finset.univ]{fullShare} m (oloc c)) ∗ levAts L lv
        ∗ Pipeline.launchCred O₀ c ∗ Dealt m c) ⊢ Begin m c := by
  unfold Dealt Begin
  iintro ⟨Hx, Ho, Hl, Hc, ⟨%K, HR, Hat, Htok⟩⟩
  ihave ⟨Hcb, Hcp⟩ := (credits (F := F) c) $$ Hc
  ihave ⟨Hab, Hac, Hat, Haf⟩ := (Entails.of_eq (over_keys (F := F) fun k => atPos ER (cell c k) 0 ∅ 0)) $$ Hat
  unfold handed
  icases Htok with ⟨H3, Hkc, Hkt, Hkf⟩
  iexists K
  isplitr [HR Hl]
  · unfold Start
    rw [seeds_eq, dues_eq]
    isplitl [Hx]; · iexact Hx
    isplitl [Ho]; · iexact Ho
    isplitl [Hab Hcb]
    · isplitl [Hab] <;> iassumption
    isplitl [H3]; · iexact H3
    isplitl [Hac Hkc]
    · isplitl [Hac] <;> iassumption
    isplitl [Haf Hkf Hkt]
    · isplitl [Haf]; · iexact Haf
      isplitl [Hkf]; · iexact Hkf
      iexact Hkt
    isplitl [Hat]; · iexact Hat
    iexact Hcp
  unfold per
  isplitl [HR] <;> iassumption

/-- What is left of a device's run, its semaphores apart. -/
def Left (c : Dev nD) : sProp 𝕄 :=
  iprop((xloc c ↦[Finset.univ]{fullShare} m (xloc c)) ∗ (oloc c ↦[Finset.univ]{fullShare} result m c) ∗ unscopedSems0 c)

theorem final_split (c : Dev nD) : Final m c ⊢ iprop(Left m c ∗ own0 (F := F) c ∗ emp) := by
  have e : own0 (F := F) c = iprop(semVal (cell c kcp) 0 ∗ each (fun h b t => semVal (cell c (kp h b true t)) 0) ∗ each fun h b t => semVal (cell c (kp h b false t)) 0) := by
    rw [← over_sides fun h b r t => semVal (cell c (kp h b r t)) 0]
    refine (bigSep_univ_sum _).trans ?_
    rw [Finset.univ_unique, bigSep_singleton]
    rfl
  unfold Final Left
  rw [zeros_eq, e, bar0]
  iintro ⟨Hx, Ho, Hb, Hc, Hz⟩
  isplitl [Hx Ho Hb]
  · isplitl [Hx]; · iexact Hx
    isplitl [Ho]; · iexact Ho
    iexact Hb
  isplitl [Hc Hz]
  · isplitl [Hc] <;> iassumption
  iempintro

/-! ## The program's one kernel -/

def dats (_ : Fin 1) (c : Dev nD) : Pipeline.Dat τ (Elt F) Unit ℕ UU ℕ cfg0 c where
  A w := w.elim0
  after w _ := w.elim0
  Φ t := match t with
    | ⟨0, _⟩ => Begin m c
    | ⟨_ + 1, _⟩ => Final m c
  q _ := fullShare
  owed t := match t with
    | ⟨0, _⟩ => O₀ c
    | ⟨_ + 1, _⟩ => 0

/-- The debt a device enters or leaves the kernel with, whatever it has waited for. -/
theorem owes_in (c : Dev nD) : (dats m 0 c).owesAt () (t0_0 : Fin cfg0.N).castSucc ⊢ owing (F := F) c (O₀ c) := by
  unfold Pipeline.Dat.owesAt Pipeline.owesWithin owing
  rw [show (dats m 0 c).owed (t0_0 : Fin cfg0.N).castSucc = O₀ c from rfl]
  iintro ⟨%W, -, H⟩
  iexists W
  iexact H

theorem owes_out (c : Dev nD) : owing (F := F) c 0 ⊢ (dats m 0 c).owesAt () (t0_0 : Fin cfg0.N).succ := by
  unfold Pipeline.Dat.owesAt Pipeline.owesWithin owing
  rw [show (dats m 0 c).owed (t0_0 : Fin cfg0.N).succ = 0 from rfl]
  iintro ⟨%W, H⟩
  iexists W
  isplitr
  · ipureintro; exact fun _ _ => Or.inl trivial
  iexact H

set_option maxRecDepth 4000 in
theorem body_holds (c : Dev nD) : Pipeline.BodyObligation (dats (F := F) m 0 c) (defs₀ (F := F)) 𝒱₀ () Set.univ := fun t => by
  rw [fin_N0 t]
  show iprop(Begin m c ∗ (dats m 0 c).owesAt () (t0_0 : Fin cfg0.N).castSucc ∗ _) ⊢ WP c (cc0_body (Memref.whole main_arg0) (Memref.isWhole_whole _) (Memref.whole main_v1) (Memref.isWhole_whole _)
      cc0_scratch0 cc0_scratch1 cc0_scratch2 cc0_scratch3 cc0_scratch4 cc0_scratch5 cc0_scratch6 cc0_scratch7 cc0_scratch8)
      (fun _ => iprop(Final m c ∗ (dats m 0 c).owesAt () (t0_0 : Fin cfg0.N).succ ∗ bigSep (Finset.univ : Finset (Fin 0)) _))
  unfold Begin
  iintro ⟨⟨%K, Hs, Hp⟩, Ho, -⟩
  ihave Ho := (owes_in m c) $$ Ho
  iapply (body_runs m K c (m (oloc c)) (Q := fun _ => iprop(Final m c ∗ (dats m 0 c).owesAt () (t0_0 : Fin cfg0.N).succ ∗ bigSep (Finset.univ : Finset (Fin 0)) _)) (by
    iintro ⟨Hf, Ho⟩
    isplitl [Hf]; · iexact Hf
    isplitl
    · iapply (owes_out m c); iexact Ho
    rw [Finset.univ_eq_empty, bigSep_empty]
    iempintro))
  isplitl [Hs]; · iexact Hs
  isplitl [Hp] <;> iassumption

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ Dealt m c)
      ⊢ |={Set.univ}=> iprop(Begin m c ∗ emp) := by
  rw [Pipeline.unscopedRestP_none, unscopedRest0_eq]
  iintro ⟨⟨Hx, Ho⟩, Hl, Hc, -, HD⟩
  imodintro
  isplitl
  · iapply (begin_intro m c)
    isplitl [Hx]; · iexact Hx
    isplitl [Ho]; · iexact Ho
    isplitl [Hl]; · iexact Hl
    isplitl [Hc] <;> iassumption
  iempintro

theorem share_full (c : Dev nD) (w : Fin cfg0.W) : (dats m 0 c).share w = fullShare := w.elim0

/-- What a device's memory shows at the end. -/
def Shown (c : Dev nD) (s : MemSt nD τ sig (Elt F)) : Prop :=
  s.mem (xloc c) = m (xloc c) ∧ s.mem (oloc c) = result m c ∧ ∀ sm : SemLoc sig, sm.isScoped .tc = false → s.sem ((c.tc : Thread nD τ), sm) = 0

theorem shown (c : Dev nD) (s' : Phys nD τ sig (Elt F)) : iprop(Left m c ∗ emp ∗ SI s') ⊢ |={Set.univ}=> iprop(⌜Shown m c s'.mem⌝ ∗ SI s') := by
  unfold Left
  iintro ⟨⟨Hx, Ho, Hu⟩, -, HSI⟩
  ihave %hx := (show iprop(SI s' ∗ (xloc c ↦[Finset.univ]{fullShare} m (xloc c))) ⊢ (⌜∀ i ∈ Finset.univ, s'.mem.mem (xloc c) i = m (xloc c) i⌝ : sProp 𝕄) from SI_pointsTo_agree) $$ [HSI Hx]
  · isplitl [HSI] <;> iassumption
  ihave %ho := (show iprop(SI s' ∗ (oloc c ↦[Finset.univ]{fullShare} result m c)) ⊢ (⌜∀ i ∈ Finset.univ, s'.mem.mem (oloc c) i = result m c i⌝ : sProp 𝕄) from SI_pointsTo_agree) $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨funext fun i => hx i (Finset.mem_univ _), funext fun i => ho i (Finset.mem_univ _), hs⟩
  iexact HSI

set_option maxRecDepth 8000 in
/-- From any memory, with every counter at zero, every run of the program ends; then each device's argument holds what
    it held, each device's result holds `result`, and every counter is at zero. -/
theorem run_main : θ_run defs (onTc (τ := τ) (main (F := F))) ⟨m, fun _ => 0, ρ⟩
    (fun r => (∀ c : Dev nD, r.2.mem (xloc c) = m (xloc c) ∧ r.2.mem (oloc c) = result m c) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) embL defs₀ 𝒱₀ m ρ main
    (hmain := fun _ => rfl)
    (hbody := body_holds m) (hne := fun w => w.elim0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := First m) (G' := Dealt m) (u₀ := u₀)
    (hu₀ := by
      unfold u₀
      iintro Hu
      ihave ⟨HP, HX⟩ := (ownU_pair _ _) $$ Hu
      imod (fund m) $$ HX with HG
      imodintro
      isplitl [HP] <;> iassumption)
    (hglob := deal m)
    (hA := fun _ w => w.elim0) (hpf := fun _ k => k.elim0)
    (X := Begin m) (Y := Left m) (Z := fun _ => iprop(emp))
    (hX := enter m ρ)
    (hin := fun c => by
      rw [show (dats m 0 c).Φ 0 = Begin m c from rfl]
      iintro ⟨H, -, -⟩
      iexact H)
    (hout := fun c => by
      rw [show (dats m 0 c).Φ (Fin.last cfg0.N) = Final m c from rfl, scopedRest0_eq]
      exact final_split m c)
    (QY := Shown m) (hY := shown m)
    (hQ := fun _ h hs => ⟨fun c => ⟨(h c).2.2.1, (h c).2.2.2.1⟩, sem_eq_zero hs fun c => (h c).2.2.2.2⟩)

end Cert.Gather
-- ==== Proof.Claims.lean ====
/-
The claims: each program runs and leaves its argument and its counters as they were; and what every device's result
holds at the end is the reference's whole array.
-/
module

public import proofs.«01_k».proof.Proof.Launch
public import proofs.«01_k».proof.Defs
public import proofs.«01_k».proof.Proof.Gen.Kernel
public import proofs.«01_k».proof.Proof.Gen.ReferenceIdeal
public import Idealize.ShloMosaic.Lib.Layout
public import Idealize.ShloMosaic.Lib.StableHlo.Run

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result is the whole array -/

theorem block_row (d : Dev nD) : Layout.meshLin [2, 4, 4] d.val [1] = cy d := by revert d; decide +kernel

/-- The home of a row's block holds that row's chunk. -/
theorem cy_home (c : Dev nD) (i : S16384x1024.Idx) : cy (home c ((i 0).val / 512)) = (i 0).val / 4096 := by
  have hi : (i 0).val < 16384 := (i 0).isLt
  unfold cy home devAt
  show ((i 0).val / 512 / 4 % 2 % 2 * 16 + (i 0).val / 512 / 8 % 4 * 4 + c.val % 4) / 4 % 4 = (i 0).val / 4096
  omega

/-- Where every device's argument is its block of `v` along y, every device's result is `v`. -/
theorem result_eq (m : (ℓ : Loc nD τ sig) → Buf (Elt F) ℓ) (v : S16384x1024.Idx → Elt F .f32)
    (h : ∀ c : Dev nD, m (xloc c) = Layout.blockN ⟨2, ![4096, 1024]⟩ ⟨2, ![16384, 1024]⟩ (Layout.meshBlock [2, 4, 4] ![[1], []] c) v) (c : Dev nD) :
    result m c = v := by
  have at_home : ∀ (d : Dev nD) (i : S16384x1024.Idx), (i 0).val / 4096 = cy d → m (xloc d) (srcIx i) = v i := fun d i e => by
    rw [h d]
    refine congrArg v (funext fun a => Fin.ext ?_)
    fin_cases a
    · show Layout.meshLin [2, 4, 4] d.val [1] * 4096 + (i 0).val % 4096 = (i 0).val
      rw [block_row, ← e, Nat.div_add_mod' _ 4096]
    · show 0 * 1024 + (i 1).val = (i 1).val
      rw [Nat.zero_mul, Nat.zero_add]
  funext i
  unfold result travels
  split
  · next e => exact at_home c i e
  · exact at_home _ i (cy_home c i).symm

/-! ## The reference -/

/-- The reference returns its argument. -/
theorem run_reference (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl) (fun _ => trivial) m g)

/-! ## The claims -/

theorem frame_kernel : Cert.quiescent_Kernel := fun m g _ =>
  (θ_run Cert.KernelIdeal.defs _ _).mono (fun _ h => ⟨fun c => (h.1 c).1, h.2⟩) (run_main (F := Bits) m g)

theorem frame_ideal : Cert.quiescent_KernelIdeal := fun m g _ =>
  (θ_run Cert.KernelIdeal.defs _ _).mono (fun _ h => ⟨fun c => (h.1 c).1, h.2⟩) (run_main (F := Ideal) m g)

theorem frame_reference : Cert.quiescent_ReferenceIdeal := fun m g _ =>
  (θ_run Cert.ReferenceIdeal.defs _ _).mono (fun r h => ⟨h, Idealize.ShloMosaic.sem_eq_zero_of_no_sems (by decide) r.2⟩)
    (run_reference (F := Ideal) m g)

theorem same_values : Cert.algebraic_KernelIdeal_ReferenceIdeal := fun m g m' g' _ hblock =>
  ⟨_, (θ_run Cert.KernelIdeal.defs _ _).mono (fun _ h c => ⟨(h.1 c).2.trans (result_eq m _ hblock c), (h.1 c).1⟩) (run_main (F := Ideal) m g),
    (θ_run Cert.ReferenceIdeal.defs _ _).mono (fun _ h => ⟨h 0, h 0⟩) (run_reference (F := Ideal) m' g')⟩

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.same_values⟩

end Cert.Proof

end
